-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 8]⟩ ⟨2, ![1024, 16]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![8, 1024, 4096]⟩ ⟨3, ![16, 1024, 4096]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 4096, 1024]⟩ ⟨3, ![16, 4096, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1024]⟩ : Shape).Idx, (Layout.blockN ⟨2, ![1024, 1024]⟩ ⟨2, ![2048, 1024]⟩ (Layout.meshBlock [2, 2, 2] ![[1], []] c) ((Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![1024, 1024]⟩ : Shape).Idx → _) i = 1#1 → r.2.mem ((c.tc : Thread Cert.KernelIdeal.nD Cert.KernelIdeal.τ).loc Cert.KernelIdeal.main_v1) i = (Layout.blockN ⟨2, ![1024, 1024]⟩ ⟨2, ![2048, 1024]⟩ (Layout.meshBlock [2, 2, 2] ![[1], []] c) v0 : (⟨2, ![1024, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 1024]⟩ : Shape).Idx, (Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v41) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_routed (hKernelIdeal := hKernelIdeal) (hReferenceIdeal := hReferenceIdeal) (hOn_routed := hOn_routed)
-- ==== On_routed.lean ====
abbrev S2048x1024 : Shape := ⟨2, ![2048, 1024]⟩
abbrev S1024x16 : Shape := ⟨2, ![1024, 16]⟩
abbrev S16x1024x4096 : Shape := ⟨3, ![16, 1024, 4096]⟩
abbrev S16x4096x1024 : Shape := ⟨3, ![16, 4096, 1024]⟩
abbrev S2048x16 : Shape := ⟨2, ![2048, 16]⟩
abbrev S2048x1x16 : Shape := ⟨3, ![2048, 1, 16]⟩
abbrev S2048x16x1 : Shape := ⟨3, ![2048, 16, 1]⟩
abbrev S2048x16x16 : Shape := ⟨3, ![2048, 16, 16]⟩
abbrev S_ : Shape := ⟨0, ![]⟩
abbrev S2048 : Shape := ⟨1, ![2048]⟩
abbrev S2048x1 : Shape := ⟨2, ![2048, 1]⟩

class Facts : Prop where
  bcast_S2048x16_S2048x1x16_0_2 : S2048x16.BroadcastsInDim S2048x1x16 (![0, 2] : Fin 2 → Fin S2048x1x16.rank)
  bcast_S2048x16_S2048x16x1_0_1 : S2048x16.BroadcastsInDim S2048x16x1 (![0, 1] : Fin 2 → Fin S2048x16x1.rank)
  bcast_S2048x1x16_S2048x16x16_0_1_2 : S2048x1x16.BroadcastsInDim S2048x16x16 (![0, 1, 2] : Fin 3 → Fin S2048x16x16.rank)
  bcast_S2048x16x1_S2048x16x16_0_1_2 : S2048x16x1.BroadcastsInDim S2048x16x16 (![0, 1, 2] : Fin 3 → Fin S2048x16x16.rank)
  natLt_1_32 : 1 < 32
  reducesTo_S2048x16x16_S2048x16_d2 : S2048x16x16.ReducesTo [2] S2048x16
  h_S_ : 0 < S_.numel
  bcast_S_S2048x16 : S_.BroadcastsInDim S2048x16 (![] : Fin 0 → Fin S2048x16.rank)
  reducesTo_S2048x16_S2048_d1 : S2048x16.ReducesTo [1] S2048
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  dot_S2048x1024_S1024x16_S2048x16_1_0_0_1_n_n_wf : DotDims.WF S2048x1024 S1024x16 S2048x16 [1] [0] [0] [1] [] []

variable [Facts]

def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def fn_part1 {F : FTy → Type} [FloatOps F] (main_v0 : FVec F S2048x16 .f32) (main_v17 : IVec S2048x16 1) (main_v18 : FVec F S2048x16 .f32) : IVec S2048x1024 1 :=
  let main_v19 : IVec S2048x16 1 := cmpf .olt main_v0 main_v18
  let main_v20 : IVec S2048x16 1 := andi main_v17 main_v19
  let main_c_3 : IVec S_ 1 := constantI S_ 1 1#1
  let main_v21 : IVec S2048 1 := (fun x v => Host.reduce IntOp.andi x v reducesTo_S2048x16_S2048_d1 h_S_) main_v20 main_c_3
  let main_v22 : IVec S2048x1 1 := broadcastInDim S2048x1 ![0] bcast_S2048_S2048x1_0 main_v21
  let main_v23 : IVec S2048x1024 1 := broadcastInDim S2048x1024 ![0, 1] bcast_S2048x1_S2048x1024_0_1 main_v22
  main_v23

def fn {F : FTy → Type} [FloatOps F] (main_arg0 : FVec F S2048x1024 .f32) (main_arg1 : FVec F S1024x16 .f32) (main_arg2 : FVec F S16x1024x4096 .f32) (main_arg3 : FVec F S16x4096x1024 .f32) : IVec S2048x1024 1 :=
  let main_v0 : FVec F S2048x16 .f32 := (fun l r => Host.dotGeneral dot_S2048x1024_S1024x16_S2048x16_1_0_0_1_n_n none l r) main_arg0 main_arg1
  let main_v1 : FVec F S2048x1x16 .f32 := broadcastInDim S2048x1x16 ![0, 2] bcast_S2048x16_S2048x1x16_0_2 main_v0
  let main_v2 : FVec F S2048x16x1 .f32 := broadcastInDim S2048x16x1 ![0, 1] bcast_S2048x16_S2048x16x1_0_1 main_v0
  let main_v3 : FVec F S2048x16x16 .f32 := broadcastInDim S2048x16x16 ![0, 1, 2] bcast_S2048x1x16_S2048x16x16_0_1_2 main_v1
  let main_v4 : FVec F S2048x16x16 .f32 := broadcastInDim S2048x16x16 ![0, 1, 2] bcast_S2048x16x1_S2048x16x16_0_1_2 main_v2
  let main_v5 : IVec S2048x16x16 1 := cmpf .ogt main_v3 main_v4
  let main_v6 : IVec S2048x16x16 32 := (extui 32 · natLt_1_32) main_v5
  let main_c : IVec S_ 32 := constantI S_ 32 0#32
  let main_v7 : IVec S2048x16 32 := (fun x v => Host.reduce IntOp.addi x v reducesTo_S2048x16x16_S2048x16_d2 h_S_) main_v6 main_c
  let main_v8 : FVec F S2048x16x16 .f32 := broadcastInDim S2048x16x16 ![0, 1, 2] bcast_S2048x1x16_S2048x16x16_0_1_2 main_v1
  let main_v9 : FVec F S2048x16x16 .f32 := broadcastInDim S2048x16x16 ![0, 1, 2] bcast_S2048x16x1_S2048x16x16_0_1_2 main_v2
  let main_v10 : IVec S2048x16x16 1 := cmpf .oge main_v8 main_v9
  let main_v11 : IVec S2048x16x16 32 := (extui 32 · natLt_1_32) main_v10
  let main_c_0 : IVec S_ 32 := constantI S_ 32 0#32
  let main_v12 : IVec S2048x16 32 := (fun x v => Host.reduce IntOp.addi x v reducesTo_S2048x16x16_S2048x16_d2 h_S_) main_v11 main_c_0
  let main_c_1 : IVec S_ 32 := constantI S_ 32 2#32
  let main_v13 : IVec S2048x16 32 := broadcastInDim S2048x16 ![] bcast_S_S2048x16 main_c_1
  let main_v14 : IVec S2048x16 1 := cmpi .sge main_v7 main_v13
  let main_c_2 : IVec S_ 32 := constantI S_ 32 2#32
  let main_v15 : IVec S2048x16 32 := broadcastInDim S2048x16 ![] bcast_S_S2048x16 main_c_2
  let main_v16 : IVec S2048x16 1 := cmpi .sle main_v12 main_v15
  let main_v17 : IVec S2048x16 1 := ori main_v14 main_v16
  let main_cst : FVec F S_ .f32 := constant S_ .f32 0x7F800000#32
  let main_v18 : FVec F S2048x16 .f32 := broadcastInDim S2048x16 ![] bcast_S_S2048x16 main_cst
  fn_part1 (F := F) main_v0 main_v17 main_v18
-- ==== Kernel.lean ====
abbrev S1024x1024 : Shape := ⟨2, ![1024, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S512x1024 : Shape := ⟨2, ![512, 1024]⟩
abbrev S2x1024x8 : Shape := ⟨3, ![2, 1024, 8]⟩
abbrev S512x16 : Shape := ⟨2, ![512, 16]⟩
abbrev S10 : Shape := ⟨1, ![10]⟩
abbrev S_ : Shape := ⟨0, ![]⟩
abbrev S1x1024x8 : Shape := ⟨3, ![1, 1024, 8]⟩
abbrev S1 : Shape := ⟨1, ![1]⟩
abbrev S512x8 : Shape := ⟨2, ![512, 8]⟩
abbrev S512 : Shape := ⟨1, ![512]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S1024x1024, .f32⟩
  | .local _ .vmem, ⟨0, _⟩ => ⟨S1024x1024, .f32⟩
  | .local _ .vmem, ⟨1, _⟩ => ⟨S1024x8, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S512x1024, .f32⟩
  | .local _ .vmem, ⟨8, _⟩ => ⟨S512x1024, .f32⟩
  | .local _ .vmem, ⟨9, _⟩ => ⟨S2x1024x8, .f32⟩
  | .local _ .vmem, ⟨10, _⟩ => ⟨S512x16, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev barrier0 : Sem sig := 0

abbrev nD : Nat := 8
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let arg1 : BitVec 32 := BitVec.ofNat 32 (i 1).val
  let c0_i32_6 : BitVec 32 := 0#32
  let v13 : BitVec 1 := Scalar.cmpi .eq arg1 c0_i32_6
  let v14 : BitVec 1 := Scalar.andi v12 v13
  let v15 : BitVec 32 := Scalar.extui v14
  let c0_i32_7 : BitVec 32 := 0#32
  let v16 : BitVec 1 := Scalar.cmpi .ne v15 c0_i32_7
  v16

def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v47 : BitVec 32 := Scalar.muli v2 c4_i32_27
  let v48 : BitVec 32 := Scalar.addi c0_i32_28 v47
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_29 : BitVec 32 := 2#32
  let v49 : BitVec 32 := Scalar.muli v9 c2_i32_29
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v51 : BitVec 32 := Scalar.muli v8 c1_i32_30
  let v52 : BitVec 32 := Scalar.addi v50 v51
  v52.toNat
def k0_dev2 (d0 : Dev nD) : Nat :=
  let c0_i32_33 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_32 : BitVec 32 := 4#32
  let v53 : BitVec 32 := Scalar.muli v10 c4_i32_32
  let v54 : BitVec 32 := Scalar.addi c0_i32_33 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v55 : BitVec 32 := Scalar.muli v5 c2_i32_34
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v57 : BitVec 32 := Scalar.muli v8 c1_i32_35
  let v58 : BitVec 32 := Scalar.addi v56 v57
  v58.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v59 : BitVec 32 := Scalar.muli v2 c4_i32_37
  let v60 : BitVec 32 := Scalar.addi c0_i32_38 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v61 : BitVec 32 := Scalar.muli v5 c2_i32_39
  let v62 : BitVec 32 := Scalar.addi v60 v61
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_40 : BitVec 32 := 1#32
  let v63 : BitVec 32 := Scalar.muli v11 c1_i32_40
  let v64 : BitVec 32 := Scalar.addi v62 v63
  v64.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v70 : BitVec 32 := Scalar.muli v8 c512_i32
  let c0_i32_53 : BitVec 32 := 0#32
  ![v70.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v71 : BitVec 32 := Scalar.muli v2 c4_i32_49
  let v72 : BitVec 32 := Scalar.addi c0_i32_50 v71
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v73 : BitVec 32 := Scalar.muli v9 c2_i32_51
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v75 : BitVec 32 := Scalar.muli v8 c1_i32_52
  let v76 : BitVec 32 := Scalar.addi v74 v75
  v76.toNat
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v82 : BitVec 32 := Scalar.muli v2 c4_i32_57
  let v83 : BitVec 32 := Scalar.addi c0_i32_58 v82
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_59 : BitVec 32 := 2#32
  let v84 : BitVec 32 := Scalar.muli v9 c2_i32_59
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v86 : BitVec 32 := Scalar.muli v8 c1_i32_60
  let v87 : BitVec 32 := Scalar.addi v85 v86
  v87.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v70 : BitVec 32 := Scalar.muli v8 c512_i32
  let v121 : Index := Scalar.indexCast v70
  let c0_89 : Index := 0#32
  ![v121.toNat, 0]
def k0_cond2 (i : grid0.Coords) : BitVec 1 :=
  let arg0 : BitVec 32 := BitVec.ofNat 32 (i 0).val
  let c7_i32 : BitVec 32 := 7#32
  let v41 : BitVec 1 := Scalar.cmpi .eq arg0 c7_i32
  let arg1 : BitVec 32 := BitVec.ofNat 32 (i 1).val
  let c3_i32 : BitVec 32 := 3#32
  let v42 : BitVec 1 := Scalar.cmpi .eq arg1 c3_i32
  let v43 : BitVec 1 := Scalar.andi v41 v42
  let v44 : BitVec 32 := Scalar.extui v43
  let c0_i32_25 : BitVec 32 := 0#32
  let v45 : BitVec 1 := Scalar.cmpi .ne v44 c0_i32_25
  v45

def k0_dev6 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v46 : BitVec 32 := Scalar.muli v2 c4_i32_27
  let v47 : BitVec 32 := Scalar.addi c0_i32_28 v46
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_29 : BitVec 32 := 2#32
  let v48 : BitVec 32 := Scalar.muli v9 c2_i32_29
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v50 : BitVec 32 := Scalar.muli v8 c1_i32_30
  let v51 : BitVec 32 := Scalar.addi v49 v50
  v51.toNat
def k0_dev7 (d0 : Dev nD) : Nat :=
  let c0_i32_48 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_47 : BitVec 32 := 4#32
  let v72 : BitVec 32 := Scalar.muli v10 c4_i32_47
  let v73 : BitVec 32 := Scalar.addi c0_i32_48 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v74 : BitVec 32 := Scalar.muli v5 c2_i32_49
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v76 : BitVec 32 := Scalar.muli v8 c1_i32_50
  let v77 : BitVec 32 := Scalar.addi v75 v76
  v77.toNat
def k0_dev8 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v99 : BitVec 32 := Scalar.muli v2 c4_i32_66
  let v100 : BitVec 32 := Scalar.addi c0_i32_67 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v101 : BitVec 32 := Scalar.muli v5 c2_i32_68
  let v102 : BitVec 32 := Scalar.addi v100 v101
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_69 : BitVec 32 := 1#32
  let v103 : BitVec 32 := Scalar.muli v11 c1_i32_69
  let v104 : BitVec 32 := Scalar.addi v102 v103
  v104.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S2048x1024 : Shape := ⟨2, ![2048, 1024]⟩
abbrev S1024x16 : Shape := ⟨2, ![1024, 16]⟩
abbrev S16x1024x4096 : Shape := ⟨3, ![16, 1024, 4096]⟩
abbrev S16x4096x1024 : Shape := ⟨3, ![16, 4096, 1024]⟩
abbrev S2048x16 : Shape := ⟨2, ![2048, 16]⟩
abbrev S16 : Shape := ⟨1, ![16]⟩
abbrev S2048x1x16 : Shape := ⟨3, ![2048, 1, 16]⟩
abbrev S2048x16x1 : Shape := ⟨3, ![2048, 16, 1]⟩
abbrev S2048x16x16 : Shape := ⟨3, ![2048, 16, 16]⟩
abbrev S1x1x16 : Shape := ⟨3, ![1, 1, 16]⟩
abbrev S1x16x1 : Shape := ⟨3, ![1, 16, 1]⟩
abbrev S1x16x16 : Shape := ⟨3, ![1, 16, 16]⟩
abbrev S_ : Shape := ⟨0, ![]⟩
abbrev S2048 : Shape := ⟨1, ![2048]⟩
abbrev S2048x1 : Shape := ⟨2, ![2048, 1]⟩
abbrev S16x4096x2048 : Shape := ⟨3, ![16, 4096, 2048]⟩
abbrev S16x2048x4096 : Shape := ⟨3, ![16, 2048, 4096]⟩
abbrev S16x2048x1024 : Shape := ⟨3, ![16, 2048, 1024]⟩
abbrev S16x2048 : Shape := ⟨2, ![16, 2048]⟩
abbrev S16x2048x1 : Shape := ⟨3, ![16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S16x1024x4096, .f32⟩
  | .hbm, ⟨3, _⟩ => ⟨S16x4096x1024, .f32⟩
  | .hbm, ⟨4, _⟩ => ⟨S2048x16, .f32⟩
  | .hbm, ⟨5, _⟩ => ⟨S16, .i32⟩
  | .hbm, ⟨6, _⟩ => ⟨S2048x1x16, .f32⟩
  | .hbm, ⟨7, _⟩ => ⟨S2048x16x1, .f32⟩
  | .hbm, ⟨8, _⟩ => ⟨S2048x16x16, .f32⟩
  | .hbm, ⟨9, _⟩ => ⟨S2048x16x16, .f32⟩
  | .hbm, ⟨10, _⟩ => ⟨S2048x16x16, .i1⟩
  | .hbm, ⟨11, _⟩ => ⟨S2048x16x16, .f32⟩
  | .hbm, ⟨12, _⟩ => ⟨S2048x16x16, .f32⟩
  | .hbm, ⟨13, _⟩ => ⟨S2048x16x16, .i1⟩
  | .hbm, ⟨14, _⟩ => ⟨S1x1x16, .i32⟩
  | .hbm, ⟨15, _⟩ => ⟨S1x16x1, .i32⟩
  | .hbm, ⟨16, _⟩ => ⟨S1x16x16, .i32⟩
  | .hbm, ⟨17, _⟩ => ⟨S1x16x16, .i32⟩
  | .hbm, ⟨18, _⟩ => ⟨S1x16x16, .i1⟩
  | .hbm, ⟨19, _⟩ => ⟨S2048x16x16, .i1⟩
  | .hbm, ⟨20, _⟩ => ⟨S2048x16x16, .i1⟩
  | .hbm, ⟨21, _⟩ => ⟨S2048x16x16, .i1⟩
  | .hbm, ⟨22, _⟩ => ⟨S2048x16x16, .i32⟩
  | .hbm, ⟨23, _⟩ => ⟨S_, .i32⟩
  | .hbm, ⟨24, _⟩ => ⟨S2048x16, .i32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .i32⟩
  | .hbm, ⟨29, _⟩ => ⟨S2048x16, .i32⟩
  | .hbm, ⟨30, _⟩ => ⟨S2048x16, .i1⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S_, .f32⟩
  | .hbm, ⟨35, _⟩ => ⟨S_, .f32⟩
  | .hbm, ⟨36, _⟩ => ⟨S2048x16, .f32⟩
  | .hbm, ⟨37, _⟩ => ⟨S2048x16, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x16, .f32⟩
  | .hbm, ⟨42, _⟩ => ⟨S2048x16, .f32⟩
  | .hbm, ⟨43, _⟩ => ⟨S16x4096x2048, .f32⟩
  | .hbm, ⟨44, _⟩ => ⟨S16x2048x4096, .f32⟩
  | .hbm, ⟨45, _⟩ => ⟨S_, .f32⟩
  | .hbm, ⟨46, _⟩ => ⟨S16x2048x4096, .f32⟩
  | .hbm, ⟨47, _⟩ => ⟨S16x2048x4096, .f32⟩
  | .hbm, ⟨48, _⟩ => ⟨S16x2048x1024, .f32⟩
  | .hbm, ⟨49, _⟩ => ⟨S16x2048, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.Proto.lean ====
/-
The protocol of the kernel: who signals whom, which buffers change hands with which semaphore, and what the buffers
hold. Everything here is stated for any float values `F`.

Device `c = 4 x + 2 y + z` of the 2 x 2 x 2 mesh talks to the three devices next to it, one along each axis. On entry
it tells all three that it has started, and with that gives away its own landing buffers. Then it exchanges token
blocks and router columns along `y`, accumulates over the grid, and at the last point adds along `y`, selects along
`x`, and completes along `z`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The kernel's own rounds: three duties at a barrier cell, one at a transfer's cell. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The neighbours -/

set_option backward.proofsInPublic true in
/-- The neighbour along `x`. -/
def xp (c : Dev nD) : Dev nD := ⟨(c.val + 4) % 8, Nat.mod_lt _ (by decide)⟩
set_option backward.proofsInPublic true in
/-- The neighbour along `y`. -/
def yp (c : Dev nD) : Dev nD := ⟨4 * (c.val / 4) + (c.val % 4 + 2) % 4, by have := c.isLt; have : nD = 8 := rfl; omega⟩
set_option backward.proofsInPublic true in
/-- The neighbour along `z`. -/
def zp (c : Dev nD) : Dev nD := ⟨2 * (c.val / 2) + (c.val + 1) % 2, by have := c.isLt; have : nD = 8 := rfl; omega⟩

theorem xp_xp (c : Dev nD) : xp (xp c) = c := by revert c; decide
theorem yp_yp (c : Dev nD) : yp (yp c) = c := by revert c; decide
theorem zp_zp (c : Dev nD) : zp (zp c) = c := by revert c; decide

theorem dev1_eq (c : Dev nD) (h) : (⟨k0_dev1 c, h⟩ : Dev nD) = yp c := Fin.ext ((k0_dev1_eq c).trans (by revert c; decide))
theorem dev2_eq (c : Dev nD) (h) : (⟨k0_dev2 c, h⟩ : Dev nD) = xp c := Fin.ext ((k0_dev2_eq c).trans (by revert c; decide))
theorem dev3_eq (c : Dev nD) (h) : (⟨k0_dev3 c, h⟩ : Dev nD) = zp c := Fin.ext ((k0_dev3_eq c).trans (by revert c; decide))
theorem dev4_eq (c : Dev nD) (h) : (⟨k0_dev4 c, h⟩ : Dev nD) = yp c := Fin.ext ((k0_dev4_eq c).trans (by revert c; decide))
theorem dev5_eq (c : Dev nD) (h) : (⟨k0_dev5 c, h⟩ : Dev nD) = yp c := Fin.ext ((k0_dev5_eq c).trans (by revert c; decide))
theorem dev6_eq (c : Dev nD) (h) : (⟨k0_dev6 c, h⟩ : Dev nD) = yp c := Fin.ext ((k0_dev6_eq c).trans (by revert c; decide))
theorem dev7_eq (c : Dev nD) (h) : (⟨k0_dev7 c, h⟩ : Dev nD) = xp c := Fin.ext ((k0_dev7_eq c).trans (by revert c; decide))
theorem dev8_eq (c : Dev nD) (h) : (⟨k0_dev8 c, h⟩ : Dev nD) = zp c := Fin.ext ((k0_dev8_eq c).trans (by revert c; decide))

/-! ## The semaphores -/

/-- The barrier semaphore of the run. -/
abbrev barS : Sem sig := (SemArray.scalar (sig.barrier 0 rfl) : Sems sig S_).sem

set_option backward.proofsInPublic true in
/-- The kernel's ten transfer semaphores: even ones count what was sent, odd ones what arrived. -/
def dsem (k : Fin 10) : DmaSem sig := ⟨7 + k.val, by have := k.isLt; show 7 + k.val < 17; omega⟩

abbrev barCell (c : Dev nD) : GSem nD τ sig := ((c : Thread nD τ), .reg barS)
abbrev dcell (c : Dev nD) (k : Fin 10) : GSem nD τ sig := ((c : Thread nD τ), .dma (dsem k))

abbrev osem : Fin 10 → SemLoc sig := fun k => .dma (dsem k)
abbrev csem : Fin 11 → SemLoc sig := Fin.cases (.reg barS) (fun k => .dma (dsem k))
abbrev kcell (ck : Dev nD × Fin 11) : GSem nD τ sig := ((ck.1 : Thread nD τ), csem ck.2)

/-- The credit of a transfer of 512 token rows, and of a router block. -/
abbrev Nb : ℕ := (Memref.whole cc0_scratch1 : Memref sig .tc .vmem S512x1024 .f32).view.dmaCredit
abbrev Nr : ℕ := (Memref.whole cc0_stg1_0 : Memref sig .tc .vmem S1024x8 .f32).view.dmaCredit
theorem Nb_pos : 0 < Nb := View.dmaCredit_pos _ h_S512x1024
theorem Nr_pos : 0 < Nr := View.dmaCredit_pos _ h_S1024x8

def Nk (k : Fin 10) : ℕ := if k = 2 ∨ k = 3 then Nr else Nb
theorem Nk_pos (k : Fin 10) : 0 < Nk k := by unfold Nk; split; exacts [Nr_pos, Nb_pos]

/-! ## What the buffers hold -/

theorem cfg0_N : cfg0.N = 32 := by decide
set_option backward.proofsInPublic true in
def tAt (n : ℕ) (h : n < 32) : Fin cfg0.N := ⟨n, by rw [cfg0_N]; exact h⟩
set_option backward.proofsInPublic true in
def t₀ : Fin cfg0.N := tAt 0 (by decide)

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 31 := by decide +kernel

theorem off1_inb (c : Dev nD) : ∀ a, (k0_off1 c) a + S512x1024.size a ≤ S1024x1024.size a :=
  k0_off1_inb (grid0.coords t₀) c ((cond1_iff t₀).2 rfl)
theorem off2_inb (c : Dev nD) : ∀ a, (k0_off2 c) a + S512x1024.size a ≤ S1024x1024.size a :=
  k0_off2_inb (grid0.coords t₀) c ((cond1_iff t₀).2 rfl)

/-- The mesh coordinates of a device, as the kernel's words compute them. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

abbrev xM : Memref sig .tc .vmem S1024x1024 .f32 := Memref.whole cc0_stg0_0
abbrev rM : Memref sig .tc .vmem S1024x8 .f32 := Memref.whole cc0_stg1_0
abbrev oM : Memref sig .tc .vmem S1024x1024 .f32 := Memref.whole cc0_stg4_0
/-- The 512 of its own token rows that a device sends along `y`. -/
abbrev xsl (c : Dev nD) : Memref sig .tc .vmem S512x1024 .f32 :=
  xM.slice (Rect.unit (s := S1024x1024) (k0_off1 c) S512x1024.size (off1_inb c)) (fun _ => rfl)
/-- The two halves of the router buffer: a device's own columns, and its neighbour's. -/
abbrev rect0 : Rect S2x1024x8 := Rect.unit (s := S2x1024x8) ![0, 0, 0] S1x1024x8.size inb_S2x1024x8_S1x1024x8_0_0_0
abbrev rect1 : Rect S2x1024x8 := Rect.unit (s := S2x1024x8) ![1, 0, 0] S1x1024x8.size inb_S2x1024x8_S1x1024x8_1_0_0
abbrev fM : Memref sig .tc .vmem S2x1024x8 .f32 := Memref.whole cc0_scratch2
abbrev slab : Memref sig .tc .vmem S1024x8 .f32 := (fM.slice rect1 (fun _ => rfl)).squeeze S1024x8 squeezes_S1x1024x8_S1024x8

/-- A device's token block and router columns, as staged, and the weight blocks of a point. -/
def xstg (c : Dev nD) : Vec F S1024x1024 .f32 := iblk m c 0 t₀
def rstg (c : Dev nD) : Vec F S1024x8 .f32 := iblk m c 1 t₀
def w1At (c : Dev nD) (t : Fin cfg0.N) : Vec F S1x1024x1024 .f32 := iblk m c 2 t
def w2At (c : Dev nD) (t : Fin cfg0.N) : Vec F S1x1024x1024 .f32 := iblk m c 3 t

/-- The rows a device sends along `y`; the rows it reads of its own block. -/
def xsent (c : Dev nD) : Vec F S512x1024 .f32 := (xsl c).view.read (Elt F) (xstg m c)
def xown (c : Dev nD) : Vec F S512x1024 .f32 :=
  xM.view.readAt (Elt F) (Rect.unit (s := S1024x1024) (k0_off2 c) S512x1024.size (off2_inb c)).toLoadRect (xstg m c)
/-- The 512 token rows a device works on. -/
def xcV (c : Dev nD) : Vec F S512x1024 .f32 := k0_pay4 (wx c) (wy c) (xown m c) (xsent m (yp c))
/-- Their routing weights over a device's sixteen experts, own columns first. -/
def wmatV (c : Dev nD) : Vec F S512x16 .f32 :=
  k0_pay10 (k0_pay7 (xcV m c) (k0_pay5 (xcV m c) (k0_pay3 (rstg m c))) (k0_pay6 (k0_pay3 (rstg m (yp c)))))
/-- One point's step of the accumulation. -/
def accStep (c : Dev nD) (t : Fin cfg0.N) (a : Vec F S512x1024 .f32) : Vec F S512x1024 .f32 :=
  k0_pay1 (k0_pay12 (xcV m c) (w1At m c t) (w2At m c t)) (k0_pay13 (grid0.coords t)) (wmatV m c) (Scalar.ofBits .f32 0x00000000#32) a
/-- The accumulator before point `n`. -/
def acc (c : Dev nD) : ℕ → Vec F S512x1024 .f32
  | 0 => k0_pay11 (F := F)
  | n + 1 => if h : n < 32 then accStep m c (tAt n h) (acc c n) else acc c n
theorem acc_succ (c : Dev nD) (t : Fin cfg0.N) : acc m c (t.val + 1) = accStep m c t (acc m c t.val) := by
  have h : t.val < 32 := cfg0_N ▸ t.isLt
  rw [acc, dif_pos h]; rfl

def contribV (c : Dev nD) : Vec F S512x1024 .f32 := acc m c 32
def csumV (c : Dev nD) : Vec F S512x1024 .f32 := k0_pay8 (contribV m c) (contribV m (yp c))
def keepV (c : Dev nD) : Vec F S512x1024 .f32 := k0_pay9 (wx c) (wy c) (csumV m c) (csumV m (xp c))
def outV (c : Dev nD) : Vec F S1024x1024 .f32 := k0_pay2 (wz c) (keepV m c) (keepV m (zp c)) (keepV m (zp c)) (keepV m c)

/-! ## Points-to assertions -/

/-- Device `c`'s buffer `b`, whole, at contents `f`. -/
def pts (c : Dev nD) (b : Ref sig .tc) (f : b.ty.Contents (Elt F)) : sProp 𝕄 := ((c : Thread nD τ).loc b) ↦{fullShare} f
def pts? (c : Dev nD) (b : Ref sig .tc) : sProp 𝕄 := iprop(∃ f : b.ty.Contents (Elt F), pts c b f)

/-- The sent rows of a device's staged token block, at the block's contents. -/
def xslPts (c : Dev nD) : sProp 𝕄 := (xsl c).view.loc (c : Thread nD τ) ↦[(xsl c).view.set]{fullShare} xstg m c
/-- The neighbour's half of a device's router buffer. -/
def slabPts (c : Dev nD) (g : fM.view.ty.Contents (Elt F)) : sProp 𝕄 := slab.view.loc (c : Thread nD τ) ↦[slab.view.set]{fullShare} g
/-- The rest of the router buffer. -/
def slab0Pts (c : Dev nD) (g : fM.view.ty.Contents (Elt F)) : sProp 𝕄 :=
  fM.view.loc (c : Thread nD τ) ↦[Finset.univ \ slab.view.set]{fullShare} g

instance pts_storable (c : Dev nD) (b) (f : b.ty.Contents (Elt F)) : BI.Storable (upEmb : UEmb _ 𝕄) (pts c b f) := by unfold pts; infer_instance
instance pts?_storable (c : Dev nD) (b) : BI.Storable (upEmb : UEmb _ 𝕄) (pts? (F := F) c b) := by unfold pts?; infer_instance
instance xslPts_storable (c : Dev nD) : BI.Storable (upEmb : UEmb _ 𝕄) (xslPts m c) := by unfold xslPts; infer_instance
instance slabPts_storable (c : Dev nD) (g) : BI.Storable (upEmb : UEmb _ 𝕄) (slabPts (F := F) c g) := by unfold slabPts; infer_instance

/-! ## The schedule -/

/-- What a device's barrier units bring it: the `y` neighbour's three landing buffers, the `x` neighbour's one, the `z`
    neighbour's one. -/
def barPay (c : Dev nD) (d : Fin 3) : sProp 𝕄 :=
  match d with
  | 0 => iprop(pts? (yp c) cc0_scratch1 ∗ (∃ g, slabPts (yp c) g) ∗ pts? (yp c) cc0_scratch5)
  | 1 => pts? (xp c) cc0_scratch7
  | 2 => pts? (zp c) cc0_scratch8

/-- What a device's transfer cells bring it: a sent buffer back, or a landing buffer filled. -/
def dpay (c : Dev nD) (k : Fin 10) : sProp 𝕄 :=
  match k with
  | 0 => xslPts m c
  | 1 => pts c cc0_scratch1 (xsent m (yp c))
  | 2 => pts c cc0_stg1_0 (rstg m c)
  | 3 => iprop(∃ g, ⌜slab.view.read (Elt F) g = rstg m (yp c)⌝ ∗ slabPts c g)
  | 4 => pts c cc0_scratch4 (contribV m c)
  | 5 => pts c cc0_scratch5 (contribV m (yp c))
  | 6 => pts c cc0_scratch6 (csumV m c)
  | 7 => pts c cc0_scratch7 (csumV m (xp c))
  | 8 => pts c cc0_scratch4 (keepV m c)
  | 9 => pts c cc0_scratch8 (keepV m (zp c))

instance barPay_storable (c : Dev nD) (d) : BI.Storable (upEmb : UEmb _ 𝕄) (barPay (F := F) c d) := by
  unfold barPay; split <;> infer_instance
instance dpay_storable (c : Dev nD) (k) : BI.Storable (upEmb : UEmb _ 𝕄) (dpay m c k) := by
  unfold dpay; split <;> infer_instance

/-- The index among the kernel's own of a transfer semaphore. -/
def kOf (s : DmaSem sig) : Option (Fin 10) := if h : 7 ≤ s.val ∧ s.val < 17 then some ⟨s.val - 7, by omega⟩ else none
theorem kOf_dsem (k : Fin 10) : kOf (dsem k) = some k := by revert k; decide

/-- One round: three units at a barrier cell, the transfer's credit at each of the ten transfer cells. -/
def rd : Rounds.Schedule (GSem nD τ sig) (Fin 3) 𝕄 where
  duties g r := if r = 0 ∧ g.1.2 = .tc then (match g.2 with | .reg _ => Finset.univ | .dma s => if (kOf s).isSome then {0} else ∅) else ∅
  unitless _ := False
  amount g _ _ := match g.2 with | .reg _ => 1 | .dma s => (kOf s).elim 1 Nk
  payload g _ d := match g.2 with | .reg _ => barPay g.1.1 d | .dma s => (kOf s).elim iprop(emp) (dpay m g.1.1)
  amount_pos g _ _ _ := by
    cases g.2 with
    | reg _ => exact Nat.one_pos
    | dma s => show 0 < (kOf s).elim 1 Nk; cases kOf s with
      | none => exact Nat.one_pos
      | some k => exact Nk_pos k

instance rd_payload_storable (g : GSem nD τ sig) (r : ℕ) (d : Fin 3) : BI.Storable (upEmb : UEmb _ 𝕄) ((rd m).payload g r d) := by
  show BI.Storable upEmb (match g.2 with | .reg _ => barPay g.1.1 d | .dma s => (kOf s).elim iprop(emp) (dpay m g.1.1))
  cases g.2 with
  | reg _ => infer_instance
  | dma s => show BI.Storable upEmb ((kOf s).elim iprop(emp) (dpay m g.1.1)); cases kOf s with
    | none => show BI.Storable upEmb (iprop(emp) : sProp 𝕄); infer_instance
    | some k => show BI.Storable upEmb (dpay m g.1.1 k); infer_instance

section Sched
variable (c : Dev nD) (k : Fin 10)

theorem duties_bar : (rd m).duties (barCell c) 0 = Finset.univ := by dsimp only [rd]; exact if_pos ⟨rfl, rfl⟩
theorem duties_d : (rd m).duties (dcell c k) 0 = {0} := by dsimp only [rd]; rw [if_pos ⟨rfl, rfl⟩, kOf_dsem]; rfl
theorem duties_later (g : GSem nD τ sig) : ∀ r, 1 ≤ r → (rd m).duties g r = ∅ :=
  fun r hr => by dsimp only [rd]; rw [if_neg fun h => by omega]
theorem amount_bar (d : Fin 3) : (rd m).amount (barCell c) 0 d = 1 := rfl
theorem amount_d (d : Fin 3) : (rd m).amount (dcell c k) 0 d = Nk k := by dsimp only [rd]; rw [kOf_dsem]; rfl
theorem expect_bar : (rd m).expect (barCell c) 0 = 3 := by
  unfold Schedule.expect Schedule.amountOf
  rw [duties_bar, Finset.sum_congr rfl fun d _ => amount_bar m c d]; rfl
theorem expect_d : (rd m).expect (dcell c k) 0 = Nk k := by
  unfold Schedule.expect Schedule.amountOf; rw [duties_d, Finset.sum_singleton, amount_d]
theorem payload_bar (d : Fin 3) : (rd m).payload (barCell c) 0 d = barPay c d := rfl
theorem payload_d (d : Fin 3) : (rd m).payload (dcell c k) 0 d = dpay m c k := by dsimp only [rd]; rw [kOf_dsem]; rfl
theorem rest_bar : bigSep ((rd m).duties (barCell c) 0 \ ∅) (fun d => (rd m).payload (barCell c) 0 d)
    = iprop(barPay c 0 ∗ barPay c 1 ∗ barPay c 2) := by
  rw [Finset.sdiff_empty, duties_bar, bigSep_univ_eq_bigSepL [0, 1, 2] (by decide) (by decide)]; rfl
theorem rest_d : bigSep ((rd m).duties (dcell c k) 0 \ ∅) (fun d => (rd m).payload (dcell c k) 0 d) = dpay m c k := by
  rw [Finset.sdiff_empty, duties_d, bigSep_singleton, payload_d]

end Sched

/-! ## What a device owes, and the levels -/

/-- The credit device `c` owes at the end of the run, stage by stage, the first to be paid last in the sum. -/
def Oz (c : Dev nD) : CellTallies nD τ sig Unit := tallyAt (dcell (zp c) 9) () (Nk 9)
def Ox (c : Dev nD) : CellTallies nD τ sig Unit := Oz c + tallyAt (dcell (xp c) 7) () (Nk 7)
def Oy (c : Dev nD) : CellTallies nD τ sig Unit := Ox c + tallyAt (dcell (yp c) 5) () (Nk 5)
def Or (c : Dev nD) : CellTallies nD τ sig Unit := Oy c + tallyAt (dcell (yp c) 3) () (Nk 3)
def Os (c : Dev nD) : CellTallies nD τ sig Unit := Or c + tallyAt (dcell (yp c) 1) () (Nk 1)
def O₂ (c : Dev nD) : CellTallies nD τ sig Unit := Os c + tallyAt (barCell (zp c)) () 1
def O₁ (c : Dev nD) : CellTallies nD τ sig Unit := O₂ c + tallyAt (barCell (xp c)) () 1
def O₀ (c : Dev nD) : CellTallies nD τ sig Unit := O₁ c + tallyAt (barCell (yp c)) () 1

def L (g : GSem nD τ sig) : Finset Unit := if g.1.2 = .tc then {()} else ∅
/-- Staging below the barrier, the barrier below the first exchange, then one level for each later stage. -/
def slv : SemLoc sig → ℕ
  | .reg _ => 1
  | .dma s => if s.val < 7 then 0 else if s.val < 11 then 2 else if s.val < 13 then 3 else if s.val < 15 then 4 else 5
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is above level `n`. -/
def Above (n : ℕ) (O : CellTallies nD τ sig Unit) : Prop := ∀ g u, 0 < O g u → u ∈ L g ∧ n < lv g u
theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < slv sm) :
    Above n (tallyAt ((c : Thread nD τ), sm) () a) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)

theorem above_Oz (c : Dev nD) : Above 4 (Oz c) := above_tally _ _ _ (by decide)
theorem above_Ox (c : Dev nD) : Above 3 (Ox c) := above_add (above_tally _ _ _ (by decide)) (above_tally _ _ _ (by decide))
theorem above_mono {n n' : ℕ} {O : CellTallies nD τ sig Unit} (h : n' ≤ n) (hO : Above n O) : Above n' O :=
  fun g u hg => ⟨(hO g u hg).1, lt_of_le_of_lt h (hO g u hg).2⟩
theorem above_Oy (c : Dev nD) : Above 2 (Oy c) := above_add (above_mono (by decide) (above_Ox c)) (above_tally _ _ _ (by decide))
theorem above_Os (c : Dev nD) : Above 1 (Os c) :=
  above_add (above_add (above_mono (by decide) (above_Oy c)) (above_tally _ _ _ (by decide))) (above_tally _ _ _ (by decide))
theorem above_O₀ (c : Dev nD) : Above 0 (O₀ c) :=
  above_add (above_add (above_add (above_mono (by decide) (above_Os c)) (above_tally _ _ _ (by decide))) (above_tally _ _ _ (by decide)))
    (above_tally _ _ _ (by decide))

omit [FloatOps F] in
theorem mayWait_of (c : Dev nD) (sm : SemLoc sig) (n : ℕ) (O : CellTallies nD τ sig Unit) (hs : slv sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The state between points -/

/-- Every cell's invariant, under the names the launch gave them, and that every cell has reached its round. -/
def records (K : Dev nD × Fin 11 → ℕ) : sProp 𝕄 :=
  iprop((bigSep Finset.univ fun ck : Dev nD × Fin 11 => cellInv ER (rd m) (K ck) (kcell ck))
    ∗ bigSep Finset.univ fun ck : Dev nD × Fin 11 => reached ER (kcell ck) 0)

instance records_persistent (K : Dev nD × Fin 11 → ℕ) : BI.Persistent (records m K) := by unfold records; infer_instance

theorem inv_bar (K : Dev nD × Fin 11 → ℕ) (c : Dev nD) : records m K ⊢ cellInv ER (rd m) (K (c, 0)) (barCell c) := by
  unfold records; exact sep_elim_left.trans (bigSep_elim (Φ := fun ck : Dev nD × Fin 11 => cellInv ER (rd m) (K ck) (kcell ck)) (Finset.mem_univ (c, 0)))
theorem inv_d (K : Dev nD × Fin 11 → ℕ) (c : Dev nD) (k : Fin 10) : records m K ⊢ cellInv ER (rd m) (K (c, k.succ)) (dcell c k) := by
  unfold records; exact sep_elim_left.trans (bigSep_elim (Φ := fun ck : Dev nD × Fin 11 => cellInv ER (rd m) (K ck) (kcell ck)) (Finset.mem_univ (c, k.succ)))
theorem reached_bar (K : Dev nD × Fin 11 → ℕ) (c : Dev nD) : records m K ⊢ reached ER (barCell c) 0 := by
  unfold records; exact sep_elim_right.trans (bigSep_elim (Φ := fun ck : Dev nD × Fin 11 => (reached ER (kcell ck) 0 : sProp 𝕄)) (Finset.mem_univ (c, 0)))
theorem reached_d (K : Dev nD × Fin 11 → ℕ) (c : Dev nD) (k : Fin 10) : records m K ⊢ reached ER (dcell c k) 0 := by
  unfold records; exact sep_elim_right.trans (bigSep_elim (Φ := fun ck : Dev nD × Fin 11 => (reached ER (kcell ck) 0 : sProp 𝕄)) (Finset.mem_univ (c, k.succ)))

/-- Positions, tokens and credit that only the first point uses. -/
def early (c : Dev nD) : sProp 𝕄 :=
  iprop((atPos ER (barCell c) 0 ∅ 0 ∗ atPos ER (dcell c 0) 0 ∅ 0 ∗ atPos ER (dcell c 1) 0 ∅ 0 ∗ atPos ER (dcell c 2) 0 ∅ 0 ∗ atPos ER (dcell c 3) 0 ∅ 0)
    ∗ (dutyTok ER (barCell (yp c)) 0 0 ∗ dutyTok ER (barCell (xp c)) 0 1 ∗ dutyTok ER (barCell (zp c)) 0 2)
    ∗ (dutyTok ER (dcell c 0) 0 0 ∗ dutyTok ER (dcell (yp c) 1) 0 0 ∗ dutyTok ER (dcell c 2) 0 0 ∗ dutyTok ER (dcell (yp c) 3) 0 0))
def earlyCred (c : Dev nD) : sProp 𝕄 :=
  iprop(cred (tallyAt (barCell c) () 3) ∗ cred (tallyAt (dcell c 1) () (Nk 1)) ∗ cred (tallyAt (dcell c 3) () (Nk 3)))
/-- Those that only the last point uses. -/
def late (c : Dev nD) : sProp 𝕄 :=
  iprop((atPos ER (dcell c 4) 0 ∅ 0 ∗ atPos ER (dcell c 5) 0 ∅ 0 ∗ atPos ER (dcell c 6) 0 ∅ 0 ∗ atPos ER (dcell c 7) 0 ∅ 0
      ∗ atPos ER (dcell c 8) 0 ∅ 0 ∗ atPos ER (dcell c 9) 0 ∅ 0)
    ∗ (dutyTok ER (dcell c 4) 0 0 ∗ dutyTok ER (dcell (yp c) 5) 0 0 ∗ dutyTok ER (dcell c 6) 0 0 ∗ dutyTok ER (dcell (xp c) 7) 0 0
      ∗ dutyTok ER (dcell c 8) 0 0 ∗ dutyTok ER (dcell (zp c) 9) 0 0))
def lateCred (c : Dev nD) : sProp 𝕄 :=
  iprop(cred (tallyAt (dcell c 5) () (Nk 5)) ∗ cred (tallyAt (dcell c 7) () (Nk 7)) ∗ cred (tallyAt (dcell c 9) () (Nk 9)))

def linear (c : Dev nD) : sProp 𝕄 := iprop(early c ∗ late c)
def start (c : Dev nD) : sProp 𝕄 :=
  iprop((∃ K, records m K ∗ linear c) ∗ (earlyCred c ∗ lateCred c) ∗ levAts L lv)

/-- The neighbours' landing buffers the last point fills. -/
def lent (c : Dev nD) : sProp 𝕄 := iprop(pts? (yp c) cc0_scratch5 ∗ pts? (xp c) cc0_scratch7 ∗ pts? (zp c) cc0_scratch8)
/-- The counters closed by the first point, and by the last. -/
def zeros₁ (c : Dev nD) : sProp 𝕄 :=
  iprop(semVal (barCell c) 0 ∗ semVal (dcell c 0) 0 ∗ semVal (dcell c 1) 0 ∗ semVal (dcell c 2) 0 ∗ semVal (dcell c 3) 0)
def zeros₂ (c : Dev nD) : sProp 𝕄 :=
  iprop(semVal (dcell c 4) 0 ∗ semVal (dcell c 5) 0 ∗ semVal (dcell c 6) 0 ∗ semVal (dcell c 7) 0 ∗ semVal (dcell c 8) 0 ∗ semVal (dcell c 9) 0)

/-- What an accumulation step reads and writes. -/
def work (c : Dev nD) (n : ℕ) : sProp 𝕄 :=
  iprop(pts c cc0_scratch0 (xcV m c) ∗ pts c cc0_scratch3 (wmatV m c) ∗ pts c cc0_scratch4 (acc m c n))
/-- What no middle point touches. -/
def keep (c : Dev nD) : sProp 𝕄 :=
  iprop((∃ K, records m K ∗ late c) ∗ lateCred c ∗ levAts L lv ∗ lent c ∗ zeros₁ c
    ∗ pts? c cc0_scratch1 ∗ pts? c cc0_scratch2 ∗ pts? c cc0_scratch6)

def scratches (c : Dev nD) : sProp 𝕄 :=
  iprop(pts? c cc0_scratch0 ∗ pts? c cc0_scratch1 ∗ pts? c cc0_scratch2 ∗ pts? c cc0_scratch3 ∗ pts? c cc0_scratch4
    ∗ pts? c cc0_scratch5 ∗ pts? c cc0_scratch6 ∗ pts? c cc0_scratch7 ∗ pts? c cc0_scratch8)

def Φ₀ (c : Dev nD) : sProp 𝕄 := iprop(start m c ∗ scratches c)
def Φmid (c : Dev nD) (n : ℕ) : sProp 𝕄 := iprop(work m c n ∗ keep m c)
def Φend (c : Dev nD) : sProp 𝕄 := iprop(scratches c ∗ zeros₁ c ∗ zeros₂ c)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c
  Φ t := if t.val = 0 then Φ₀ m c else if t.val = 32 then Φend c else Φmid m c t.val
  q _ := fullShare
  owed t := if t.val = 0 then O₀ c else if t.val = 32 then 0 else Oy c

abbrev 𝒱₀ : Variants := Variants.none

end Cert.Moe

end
-- ==== Proof.Blocks.lean ====
/-
Which entries of the whole arrays a device's blocks hold: the tokens it was given and those it is sent, its experts'
router columns and weights.
-/
module

public import proofs.«01_k».proof.Proof.Proto
public import Idealize.ShloMosaic.Lib.Pipeline.Value
public import Idealize.ShloMosaic.Lib.LayoutAt
public import Idealize.ShloMosaic.Lib.Pointwise

@[expose] public section

noncomputable section

namespace Cert.Moe

open Idealize.ShloMosaic
open Cert.KernelIdeal Cert.KernelIdeal.Gen

/-! ## Where a device is on the mesh -/

def cx (c : Dev nD) : Fin 2 := ⟨c.val / 4, by have := c.isLt; have : nD = 8 := rfl; omega⟩
def cy (c : Dev nD) : Fin 2 := ⟨c.val / 2 % 2, Nat.mod_lt _ (by decide)⟩
def cz (c : Dev nD) : Fin 2 := ⟨c.val % 2, Nat.mod_lt _ (by decide)⟩

theorem cx_xp (c : Dev nD) : cx (xp c) = 1 - cx c := by revert c; decide
theorem cy_xp (c : Dev nD) : cy (xp c) = cy c := by revert c; decide
theorem cz_xp (c : Dev nD) : cz (xp c) = cz c := by revert c; decide
theorem cx_yp (c : Dev nD) : cx (yp c) = cx c := by revert c; decide
theorem cy_yp (c : Dev nD) : cy (yp c) = 1 - cy c := by revert c; decide
theorem cz_yp (c : Dev nD) : cz (yp c) = cz c := by revert c; decide
theorem cy_zp (c : Dev nD) : cy (zp c) = cy c := by revert c; decide
theorem cz_zp (c : Dev nD) : cz (zp c) = 1 - cz c := by revert c; decide
theorem wx_eq_wy (c : Dev nD) : wx c = wy c ↔ cx c = cy c := by revert c; decide
theorem wz_eq_zero (c : Dev nD) : wz c = 0#32 ↔ cz c = 0 := by revert c; decide
theorem off1_eq (c : Dev nD) : k0_off1 c = ![512 * (cz c).val, 0] := by revert c; decide
theorem off2_eq (c : Dev nD) : k0_off2 c = ![512 * (cz c).val, 0] := by revert c; decide

/-- Token `i` of chunk `b` of shard `a`. -/
def row (a b : Fin 2) (i : Fin 512) : Fin 2048 := ⟨1024 * a.val + 512 * b.val + i.val, by omega⟩

/-- Expert `k` of the eight with expert coordinate `a`. -/
def expert (a : Fin 2) (k : Fin 8) : Fin 16 := ⟨8 * a.val + k.val, by omega⟩

/-- Hidden place `k` of block `f`. -/
def place (f : Fin 4) (k : Fin 1024) : Fin 4096 := ⟨1024 * f.val + k.val, by omega⟩

/-- The expert and the hidden block of a grid point. -/
def te (t : Fin cfg0.N) : Fin 8 := ⟨t.val / 4, by have := t.isLt; have : cfg0.N = 32 := cfg0_N; omega⟩
def tf (t : Fin cfg0.N) : Fin 4 := ⟨t.val % 4, Nat.mod_lt _ (by decide)⟩

/-! ## The blocks -/

variable {F : FTy → Type} [FloatOps F]
variable (m : (ℓ : Loc nD τ sig) → Buf (Elt F) ℓ)

/-- The devices' arrays are the blocks of whole arrays. -/
structure Blocks (X : Vec F ⟨2, ![2048, 1024]⟩ .f32) (R : Vec F ⟨2, ![1024, 16]⟩ .f32) (W1 : Vec F ⟨3, ![16, 1024, 4096]⟩ .f32)
    (W2 : Vec F ⟨3, ![16, 4096, 1024]⟩ .f32) : Prop where
  x : ∀ c : Dev nD, m ((c.tc : Thread nD τ).loc main_arg0) = Layout.blockN ⟨2, ![1024, 1024]⟩ ⟨2, ![2048, 1024]⟩ (Layout.meshBlock [2, 2, 2] ![[1], []] c) X
  r : ∀ c : Dev nD, m ((c.tc : Thread nD τ).loc main_arg1) = Layout.blockN ⟨2, ![1024, 8]⟩ ⟨2, ![1024, 16]⟩ (Layout.meshBlock [2, 2, 2] ![[], [1]] c) R
  w1 : ∀ c : Dev nD, m ((c.tc : Thread nD τ).loc main_arg2) = Layout.blockN ⟨3, ![8, 1024, 4096]⟩ ⟨3, ![16, 1024, 4096]⟩ (Layout.meshBlock [2, 2, 2] ![[1], [], []] c) W1
  w2 : ∀ c : Dev nD, m ((c.tc : Thread nD τ).loc main_arg3) = Layout.blockN ⟨3, ![8, 4096, 1024]⟩ ⟨3, ![16, 4096, 1024]⟩ (Layout.meshBlock [2, 2, 2] ![[1], [], []] c) W2

theorem lin_y (c : Dev nD) : Layout.meshLin [2, 2, 2] c.val [1] = (cy c).val := by revert c; decide
theorem lin_none (c : Dev nD) : Layout.meshLin [2, 2, 2] c.val [] = 0 := by revert c; decide

theorem index0 (t : Fin cfg0.N) : win0_0.index t 0 = 0 ∧ win0_0.index t 1 = 0 := ⟨rfl, rfl⟩
theorem index1 (t : Fin cfg0.N) : win0_1.index t 0 = 0 ∧ win0_1.index t 1 = 0 := ⟨rfl, rfl⟩
theorem index2 (t : Fin cfg0.N) : win0_2.index t 0 = (te t).val ∧ win0_2.index t 1 = 0 ∧ win0_2.index t 2 = (tf t).val := by
  revert t; decide
theorem index3 (t : Fin cfg0.N) : win0_3.index t 0 = (te t).val ∧ win0_3.index t 1 = (tf t).val ∧ win0_3.index t 2 = 0 := by
  revert t; decide

variable {m} {X : Vec F ⟨2, ![2048, 1024]⟩ .f32} {R : Vec F ⟨2, ![1024, 16]⟩ .f32} {W1 : Vec F ⟨3, ![16, 1024, 4096]⟩ .f32}
  {W2 : Vec F ⟨3, ![16, 4096, 1024]⟩ .f32}

theorem xstg_apply (h : Blocks m X R W1 W2) (c : Dev nD) (i d : Fin 1024) :
    xstg m c (ix2 i d) = X (ix2 ⟨1024 * (cy c).val + i.val, by omega⟩ d) := by
  unfold xstg iblk
  rw [View.read_apply]
  show V m c main_arg0 _ = _
  unfold V
  rw [h.x c, Layout.blockN_apply]
  congr 1
  funext a
  apply Fin.ext
  rw [Layout.TilesN.idx_val]
  match a with
  | ⟨0, _⟩ =>
    show Layout.meshLin [2, 2, 2] c.val [1] * 1024 + (win0_0.index t₀ 0 * 1024 + 1 * i.val) = 1024 * (cy c).val + i.val
    rw [lin_y, (index0 t₀).1]; omega
  | ⟨1, _⟩ =>
    show Layout.meshLin [2, 2, 2] c.val [] * 1024 + (win0_0.index t₀ 1 * 1024 + 1 * d.val) = d.val
    rw [lin_none, (index0 t₀).2]; omega

theorem rstg_apply (h : Blocks m X R W1 W2) (c : Dev nD) (l : Fin 1024) (k : Fin 8) :
    rstg m c (ix2 l k) = R (ix2 l (expert (cy c) k)) := by
  unfold rstg iblk
  rw [View.read_apply]
  show V m c main_arg1 _ = _
  unfold V
  rw [h.r c, Layout.blockN_apply]
  congr 1
  funext a
  apply Fin.ext
  rw [Layout.TilesN.idx_val]
  match a with
  | ⟨0, _⟩ =>
    show Layout.meshLin [2, 2, 2] c.val [] * 1024 + (win0_1.index t₀ 0 * 1024 + 1 * l.val) = l.val
    rw [lin_none, (index1 t₀).1]; omega
  | ⟨1, _⟩ =>
    show Layout.meshLin [2, 2, 2] c.val [1] * 8 + (win0_1.index t₀ 1 * 8 + 1 * k.val) = 8 * (cy c).val + k.val
    rw [lin_y, (index1 t₀).2]; omega

theorem w1At_apply (h : Blocks m X R W1 W2) (c : Dev nD) (t : Fin cfg0.N) (l k : Fin 1024) :
    w1At m c t (ix3 0 l k) = W1 (ix3 (expert (cy c) (te t)) l (place (tf t) k)) := by
  unfold w1At iblk
  rw [View.read_apply]
  show V m c main_arg2 _ = _
  unfold V
  rw [h.w1 c, Layout.blockN_apply]
  congr 1
  funext a
  apply Fin.ext
  rw [Layout.TilesN.idx_val]
  match a with
  | ⟨0, _⟩ =>
    show Layout.meshLin [2, 2, 2] c.val [1] * 8 + (win0_2.index t 0 * 1 + 1 * 0) = 8 * (cy c).val + (te t).val
    rw [lin_y, (index2 t).1]; omega
  | ⟨1, _⟩ =>
    show Layout.meshLin [2, 2, 2] c.val [] * 1024 + (win0_2.index t 1 * 1024 + 1 * l.val) = l.val
    rw [lin_none, (index2 t).2.1]; omega
  | ⟨2, _⟩ =>
    show Layout.meshLin [2, 2, 2] c.val [] * 4096 + (win0_2.index t 2 * 1024 + 1 * k.val) = 1024 * (tf t).val + k.val
    rw [lin_none, (index2 t).2.2]; omega

theorem w2At_apply (h : Blocks m X R W1 W2) (c : Dev nD) (t : Fin cfg0.N) (k d : Fin 1024) :
    w2At m c t (ix3 0 k d) = W2 (ix3 (expert (cy c) (te t)) (place (tf t) k) d) := by
  unfold w2At iblk
  rw [View.read_apply]
  show V m c main_arg3 _ = _
  unfold V
  rw [h.w2 c, Layout.blockN_apply]
  congr 1
  funext a
  apply Fin.ext
  rw [Layout.TilesN.idx_val]
  match a with
  | ⟨0, _⟩ =>
    show Layout.meshLin [2, 2, 2] c.val [1] * 8 + (win0_3.index t 0 * 1 + 1 * 0) = 8 * (cy c).val + (te t).val
    rw [lin_y, (index3 t).1]; omega
  | ⟨1, _⟩ =>
    show Layout.meshLin [2, 2, 2] c.val [] * 4096 + (win0_3.index t 1 * 1024 + 1 * k.val) = 1024 * (tf t).val + k.val
    rw [lin_none, (index3 t).2.1]; omega
  | ⟨2, _⟩ =>
    show Layout.meshLin [2, 2, 2] c.val [] * 1024 + (win0_3.index t 2 * 1024 + 1 * d.val) = d.val
    rw [lin_none, (index3 t).2.2]; omega

theorem xsent_apply (h : Blocks m X R W1 W2) (c : Dev nD) (i : Fin 512) (d : Fin 1024) :
    xsent m c (ix2 i d) = X (ix2 (row (cy c) (cz c) i) d) := by
  unfold xsent
  rw [View.read_apply]
  refine Eq.trans (congrArg (xstg m c) ?_) ((xstg_apply h c ⟨512 * (cz c).val + i.val, by omega⟩ d).trans ?_)
  · funext a
    apply Fin.ext
    match a with
    | ⟨0, _⟩ => show k0_off1 c 0 + 1 * i.val = 512 * (cz c).val + i.val; rw [off1_eq]; show 512 * (cz c).val + _ = _; omega
    | ⟨1, _⟩ => show k0_off1 c 1 + 1 * d.val = d.val; rw [off1_eq]; show 0 + _ = _; omega
  · congr 2
    apply Fin.ext
    show 1024 * (cy c).val + (512 * (cz c).val + i.val) = 1024 * (cy c).val + 512 * (cz c).val + i.val
    omega

theorem xown_apply (h : Blocks m X R W1 W2) (c : Dev nD) (i : Fin 512) (d : Fin 1024) :
    xown m c (ix2 i d) = X (ix2 (row (cy c) (cz c) i) d) := by
  unfold xown
  refine Eq.trans (show _ = xstg m c (ix2 ⟨512 * (cz c).val + i.val, by omega⟩ d) from congrArg (xstg m c) ?_)
    ((xstg_apply h c ⟨512 * (cz c).val + i.val, by omega⟩ d).trans ?_)
  · funext a
    apply Fin.ext
    match a with
    | ⟨0, _⟩ => show k0_off2 c 0 + 1 * i.val = 512 * (cz c).val + i.val; rw [off2_eq]; show 512 * (cz c).val + _ = _; omega
    | ⟨1, _⟩ => show k0_off2 c 1 + 1 * d.val = d.val; rw [off2_eq]; show 0 + _ = _; omega
  · congr 2
    apply Fin.ext
    show 1024 * (cy c).val + (512 * (cz c).val + i.val) = 1024 * (cy c).val + 512 * (cz c).val + i.val
    omega

end Cert.Moe

end
-- ==== Proof.Weights.lean ====
/-
How a token weighs its experts, on the extended reals and away from any program: the kernel crosses out the greatest
gate to find the second, the reference ranks all sixteen. Where no gate is plus infinity and no two tie for the last
place taken, the two give the same weights, in whatever order the experts are listed.
-/
module

public import Idealize.ShloMosaic.PureOps.Ideal
public import Idealize.ShloMosaic.Lib.Affine
public import Idealize.ShloMosaic.Lib.Pointwise
public import Idealize.ShloMosaic.Lib.StableHlo.Predicate
public import Idealize.ShloMosaic.Lib.SortNet.Extract

@[expose] public section

noncomputable section

namespace Cert.Moe

open Idealize.ShloMosaic

/-! ## The kernel's weights -/

/-- The greatest of sixteen gates. -/
def best (g : Fin 16 → EReal) : EReal := Finset.univ.fold max (Ideal.ofBits .f32 0xFF800000#32) g

/-- The first expert whose gate is the greatest, as the word the kernel computes. -/
def pick (g : Fin 16 → EReal) : BitVec 32 :=
  Finset.univ.fold IntOp.minsi 2147483647#32 fun k : Fin 16 => if g k = best g then BitVec.ofNat 32 k.val else 16#32

/-- The gates with the first greatest crossed out. -/
def crossed (g : Fin 16 → EReal) (k : Fin 16) : EReal :=
  Scalar.select (IntOp.cmpi .eq (BitVec.ofNat 32 k.val) (pick g)) (Ideal.ofBits .f32 0xFF800000#32) (g k)

/-- The weight of the first choice. -/
def topWeight (g : Fin 16 → EReal) : EReal := Ideal.div 1 (1 + Ideal.exp (best (crossed g) - best g))

/-- The kernel's weight of expert `k`. -/
def kweight (g : Fin 16 → EReal) (k : Fin 16) : EReal :=
  Scalar.select (IntOp.cmpi .eq (BitVec.ofNat 32 k.val) (pick g)) (topWeight g) 0
    + Scalar.select (IntOp.cmpi .eq (BitVec.ofNat 32 k.val) (pick (crossed g))) (1 - topWeight g) 0

/-! ## The reference's weights -/

/-- How many experts come before expert `e`, as the word the reference computes. -/
def placeWord (g : Fin 16 → EReal) (e : Fin 16) : BitVec 32 :=
  Finset.univ.fold IntOp.addi 0#32 fun o : Fin 16 => BitVec.setWidth 32
    (IntOp.ori (BitVec.ofBool (decide (g e < g o)))
      (IntOp.andi (BitVec.ofBool (decide (g o = g e))) (IntOp.cmpi .slt (BitVec.ofNat 32 o.val) (BitVec.ofNat 32 e.val))))

/-- The share of expert `e` before normalizing. -/
def rshare (g : Fin 16 → EReal) (e : Fin 16) : EReal :=
  Scalar.select (IntOp.cmpi .slt (placeWord g e) 2#32) (Ideal.exp (g e - best g)) 0

/-- The reference's weight of expert `e`. -/
def rweight (g : Fin 16 → EReal) (e : Fin 16) : EReal := Ideal.div (rshare g e) (∑ k, rshare g k)

/-! ## Where the claim speaks -/

/-- The mask's bit for a token with these gates. -/
def routedBit (g : Fin 16 → EReal) : BitVec 1 :=
  Finset.univ.fold IntOp.andi 1#1 fun e : Fin 16 => IntOp.andi
    (IntOp.ori
      (IntOp.cmpi .sge (Finset.univ.fold IntOp.addi 0#32 fun o : Fin 16 => BitVec.setWidth 32 (BitVec.ofBool (decide (g e < g o)))) 2#32)
      (IntOp.cmpi .sle (Finset.univ.fold IntOp.addi 0#32 fun o : Fin 16 => BitVec.setWidth 32 (BitVec.ofBool (decide (g e ≤ g o)))) 2#32))
    (BitVec.ofBool (decide (g e < Ideal.ofBits .f32 0x7F800000#32)))

/-- How many gates are above that of `e`. -/
def above (g : Fin 16 → EReal) (e : Fin 16) : ℕ := (Finset.univ.filter fun o => g e < g o).card
/-- How many gates are at or above that of `e`, its own among them. -/
def upto (g : Fin 16 → EReal) (e : Fin 16) : ℕ := (Finset.univ.filter fun o => g e ≤ g o).card

/-- No gate is plus infinity, and the second and third greatest differ. -/
structure Routed (g : Fin 16 → EReal) : Prop where
  clear : ∀ e, 2 ≤ above g e ∨ upto g e ≤ 2
  ne_top : ∀ e, g e ≠ ⊤

theorem select_ite {α : Type} (b : BitVec 1) (x y : α) : Scalar.select b x y = if b = 1#1 then x else y := by
  rcases BitVec.eq_zero_or_eq_one b with rfl | rfl <;> rfl

theorem negInf : Ideal.ofBits .f32 0xFF800000#32 = ⊥ := by simp [Ideal.ofBits, Ideal.ieee]
theorem posInf : Ideal.ofBits .f32 0x7F800000#32 = ⊤ := by simp [Ideal.ofBits, Ideal.ieee]

/-- A sum of sixteen widened bits counts the bits set. -/
theorem toNat_count (b : Fin 16 → BitVec 1) :
    (Finset.univ.fold IntOp.addi 0#32 fun o : Fin 16 => BitVec.setWidth 32 (b o)).toNat
      = (Finset.univ.filter fun o => b o = 1#1).card := by
  have hs : ∑ o : Fin 16, (BitVec.setWidth 32 (b o)).toNat = (Finset.univ.filter fun o => b o = 1#1).card := by
    rw [Finset.card_filter]
    exact Finset.sum_congr rfl fun o _ => StableHlo.Predicate.toNat_setWidth_bit (b o)
  rw [StableHlo.Predicate.toNat_fold_addi _ _ (by
    rw [hs]; exact lt_of_le_of_lt (Finset.card_le_univ _) (by simp)), hs]

theorem card_lt (P : Fin 16 → Prop) [DecidablePred P] : (Finset.univ.filter P).card < 2 ^ 31 :=
  lt_of_le_of_lt (Finset.card_le_univ _) (by simp)

theorem fold_andi {ι : Type} [DecidableEq ι] (s : Finset ι) (p : ι → BitVec 1) (h : s.fold IntOp.andi 1#1 p = 1#1) :
    ∀ x ∈ s, p x = 1#1 := by
  induction s using Finset.cons_induction with
  | empty => simp
  | cons a s ha ih =>
    rw [Finset.fold_cons, IntOp.andi_eq_one] at h
    intro x hx
    rcases Finset.mem_cons.1 hx with rfl | hx
    · exact h.1
    · exact ih h.2 x hx

/-- The mask's bit says what it should. -/
theorem routed_of_bit (g : Fin 16 → EReal) (h : routedBit g = 1#1) : Routed g := by
  have h' := fun e => fold_andi _ _ h e (Finset.mem_univ e)
  simp only [IntOp.andi_eq_one, IntOp.ori_eq_one, StableHlo.Predicate.ofBool_eq_one_iff, decide_eq_true_eq, posInf] at h'
  refine ⟨fun e => ?_, fun e he => ?_⟩
  · have h1 := (h' e).1
    rw [StableHlo.Predicate.sge_iff_toNat (by rw [toNat_count]; exact card_lt _) (by decide),
      StableHlo.Predicate.sle_iff_toNat (by rw [toNat_count]; exact card_lt _) (by decide), toNat_count, toNat_count] at h1
    simp only [StableHlo.Predicate.ofBool_eq_one_iff, decide_eq_true_eq] at h1
    exact h1
  · exact (h' e).2.ne he

/-! ## The greatest gate and where it is -/

theorem le_best (g : Fin 16 → EReal) (k : Fin 16) : g k ≤ best g :=
  (Finset.le_fold_max _).2 (.inr ⟨k, Finset.mem_univ k, le_rfl⟩)

theorem exists_best (g : Fin 16 → EReal) : ∃ k, g k = best g := by
  obtain ⟨k, -, hk⟩ := Finset.exists_max_image Finset.univ g ⟨0, Finset.mem_univ _⟩
  refine ⟨k, le_antisymm (le_best g k) ?_⟩
  exact (Finset.fold_max_le _).2 ⟨by rw [negInf]; exact bot_le, fun x hx => hk x hx⟩

theorem toInt_small (n : ℕ) (h : n ≤ 16) : (BitVec.ofNat 32 n).toInt = n :=
  StableHlo.Predicate.toInt_ofNat_small n (by omega)

/-- The word picked names an expert whose gate is the greatest. -/
theorem exists_pick (g : Fin 16 → EReal) : ∃ a : Fin 16, g a = best g ∧ pick g = BitVec.ofNat 32 a.val := by
  obtain ⟨k₀, hk₀⟩ := exists_best g
  obtain ⟨a, ha, hmin⟩ := Finset.exists_min_image (Finset.univ.filter fun k => g k = best g) (fun k : Fin 16 => k.val)
    ⟨k₀, by simp [hk₀]⟩
  have ha' : g a = best g := (Finset.mem_filter.1 ha).2
  refine ⟨a, ha', BitVec.eq_of_toInt_eq ?_⟩
  rw [toInt_small _ a.isLt.le]
  unfold pick
  have hom := Finset.fold_hom (op := IntOp.minsi (w := 32)) (op' := min) (b := 2147483647#32) (s := Finset.univ)
    (f := fun k : Fin 16 => if g k = best g then BitVec.ofNat 32 k.val else 16#32)
    (m := BitVec.toInt) SortNet.toInt_minsi
  rw [← hom]
  refine le_antisymm ((Finset.fold_min_le _).2 (.inr ⟨a, Finset.mem_univ _, ?_⟩)) ((Finset.le_fold_min _).2 ⟨?_, fun k _ => ?_⟩)
  · simp only [ha', if_true]; rw [toInt_small _ a.isLt.le]
  · have := a.isLt
    have : (2147483647#32 : BitVec 32).toInt = 2147483647 := by decide
    omega
  · by_cases hk : g k = best g
    · simp only [hk, if_true]; rw [toInt_small _ k.isLt.le]
      exact_mod_cast hmin k (by simp [hk])
    · simp only [hk, if_false]
      have h16 : (16#32 : BitVec 32).toInt = 16 := by decide
      have := a.isLt
      omega

theorem word_eq_iff (k a : Fin 16) : IntOp.cmpi .eq (BitVec.ofNat 32 k.val) (BitVec.ofNat 32 a.val) = 1#1 ↔ k = a := by
  revert k a; decide

/-! ## The two choices -/

/-- The greatest gate but one is not minus infinity: else all gates but one would tie. -/
theorem exists_ne_bot (g : Fin 16 → EReal) (hg : Routed g) (a : Fin 16) : ∃ k, k ≠ a ∧ g k ≠ ⊥ := by
  by_contra h
  push Not at h
  have hne : a + 1 ≠ a := (by decide : ∀ a : Fin 16, a + 1 ≠ a) a
  rcases hg.clear (a + 1) with h1 | h1
  · have hsub : (Finset.univ.filter fun o => g (a + 1) < g o) ⊆ ({a} : Finset (Fin 16)) := by
      intro o ho
      simp only [Finset.mem_filter, Finset.mem_univ, true_and] at ho
      by_contra hoa
      rw [h o (by simpa using hoa)] at ho
      exact not_lt_bot ho
    have := Finset.card_le_card hsub
    simp only [Finset.card_singleton] at this
    unfold above at h1; omega
  · have hall : (Finset.univ.filter fun o => g (a + 1) ≤ g o) = Finset.univ := by
      rw [Finset.filter_eq_self]
      intro o _
      rw [h _ hne]; exact bot_le
    unfold upto at h1
    rw [hall] at h1
    simp at h1

/-- What the kernel finds: two experts `a`, `b`, the greatest gate at `a`, the greatest of the others at `b`. -/
theorem choices (g : Fin 16 → EReal) (hg : Routed g) : ∃ a b : Fin 16, a ≠ b ∧ g a = best g ∧ (∀ k, k ≠ a → g k ≤ g b)
    ∧ ∀ k, kweight g k = (if k = a then Ideal.div 1 (1 + Ideal.exp (g b - g a)) else 0)
        + if k = b then 1 - Ideal.div 1 (1 + Ideal.exp (g b - g a)) else 0 := by
  obtain ⟨a, ha, hpa⟩ := exists_pick g
  have hc : ∀ k, crossed g k = if k = a then ⊥ else g k := fun k => by
    unfold crossed; rw [select_ite, hpa]; simp only [word_eq_iff, negInf]
  obtain ⟨b, hb, hpb⟩ := exists_pick (crossed g)
  have hab : a ≠ b := by
    rintro rfl
    obtain ⟨k, hk, hkb⟩ := exists_ne_bot g hg a
    have h1 := le_best (crossed g) k
    rw [← hb, hc, hc, if_neg hk, if_pos rfl] at h1
    exact hkb (le_bot_iff.1 h1)
  have hcb : crossed g b = g b := by rw [hc, if_neg hab.symm]
  refine ⟨a, b, hab, ha, fun k hk => ?_, fun k => ?_⟩
  · have := le_best (crossed g) k
    rwa [hc k, if_neg hk, ← hb, hcb] at this
  · have htop : topWeight g = Ideal.div 1 (1 + Ideal.exp (g b - g a)) := by
      unfold topWeight; rw [← hb, hcb, ← ha]
    unfold kweight
    rw [select_ite, select_ite, hpa, hpb, htop]
    simp only [word_eq_iff]

/-- The two choices are the experts with fewer than two gates above theirs. -/
theorem above_lt_iff (g : Fin 16 → EReal) (hg : Routed g) (a b : Fin 16) (hab : a ≠ b) (ha : g a = best g)
    (hb : ∀ k, k ≠ a → g k ≤ g b) (e : Fin 16) : above g e < 2 ↔ e = a ∨ e = b := by
  constructor
  · intro h
    by_contra hne
    push Not at hne
    have h2 : upto g e ≤ 2 := (hg.clear e).resolve_left (by omega)
    have h3 : 3 ≤ upto g e := by
      have hsub : ({a, b, e} : Finset (Fin 16)) ⊆ Finset.univ.filter fun o => g e ≤ g o := by
        intro o ho
        simp only [Finset.mem_insert, Finset.mem_singleton] at ho
        simp only [Finset.mem_filter, Finset.mem_univ, true_and]
        rcases ho with rfl | rfl | rfl
        · rw [ha]; exact le_best g e
        · exact hb e hne.1
        · exact le_rfl
      have hcard : ({a, b, e} : Finset (Fin 16)).card = 3 := Finset.card_eq_three.2 ⟨a, b, e, hab, hne.1.symm, hne.2.symm, rfl⟩
      exact hcard ▸ Finset.card_le_card hsub
    omega
  · intro h
    have hsub : (Finset.univ.filter fun o => g e < g o) ⊆ ({a} : Finset (Fin 16)) := by
      intro o ho
      simp only [Finset.mem_filter, Finset.mem_univ, true_and] at ho
      simp only [Finset.mem_singleton]
      by_contra hoa
      rcases h with rfl | rfl
      · exact absurd ho (not_lt.2 (ha ▸ le_best g o))
      · exact absurd ho (not_lt.2 (hb o hoa))
    have := Finset.card_le_card hsub
    simp only [Finset.card_singleton] at this
    unfold above; omega

/-! ## The reference's share, without the ranking -/

/-- The share of expert `e`, by how many gates are above its own. -/
def share (g : Fin 16 → EReal) (e : Fin 16) : EReal := if above g e < 2 then Ideal.exp (g e - best g) else 0

theorem rshare_eq (g : Fin 16 → EReal) (hg : Routed g) (e : Fin 16) : rshare g e = share g e := by
  have hcount : (placeWord g e).toNat = (Finset.univ.filter fun o : Fin 16 => g e < g o ∨ (g o = g e ∧ o.val < e.val)).card := by
    unfold placeWord
    rw [toNat_count]
    congr 1
    ext o
    simp only [Finset.mem_filter, Finset.mem_univ, true_and, IntOp.andi_eq_one, IntOp.ori_eq_one,
      StableHlo.Predicate.ofBool_eq_one_iff, decide_eq_true_eq]
    have hw : IntOp.cmpi .slt (BitVec.ofNat 32 o.val) (BitVec.ofNat 32 e.val) = 1#1 ↔ o.val < e.val := by
      revert o e; decide
    rw [hw]
  have hiff : IntOp.cmpi .slt (placeWord g e) 2#32 = 1#1 ↔ above g e < 2 := by
    rw [StableHlo.Predicate.slt_iff_toNat (by rw [hcount]; exact card_lt _) (by decide), hcount]
    show _ < 2 ↔ _
    constructor
    · intro h
      refine lt_of_le_of_lt (Finset.card_le_card fun o ho => ?_) h
      simp only [Finset.mem_filter, Finset.mem_univ, true_and] at ho ⊢
      exact .inl ho
    · intro h
      have h2 : upto g e ≤ 2 := (hg.clear e).resolve_left (by omega)
      refine lt_of_lt_of_le (Finset.card_lt_card (Finset.ssubset_iff_of_subset (fun o ho => ?_) |>.2 ⟨e, ?_, ?_⟩)) h2
      · simp only [Finset.mem_filter, Finset.mem_univ, true_and] at ho ⊢
        rcases ho with ho | ho
        · exact ho.le
        · exact ho.1.ge
      · simp
      · simp
  unfold rshare share
  rw [select_ite]
  simp only [hiff]

theorem rweight_eq (g : Fin 16 → EReal) (hg : Routed g) (e : Fin 16) : rweight g e = Ideal.div (share g e) (∑ k, share g k) := by
  unfold rweight
  rw [rshare_eq g hg, Finset.sum_congr rfl fun k _ => rshare_eq g hg k]

/-! ## Listing the experts in another order -/

theorem best_perm (g : Fin 16 → EReal) (σ : Equiv.Perm (Fin 16)) : best (fun k => g (σ k)) = best g := by
  obtain ⟨k, hk⟩ := exists_best g
  obtain ⟨k', hk'⟩ := exists_best fun k => g (σ k)
  refine le_antisymm (hk' ▸ le_best g _) ?_
  have := le_best (fun k => g (σ k)) (σ.symm k)
  simpa only [Equiv.apply_symm_apply, hk] using this

theorem card_perm (σ : Equiv.Perm (Fin 16)) (P : Fin 16 → Prop) [DecidablePred P] :
    (Finset.univ.filter fun o => P (σ o)).card = (Finset.univ.filter P).card := by
  rw [Finset.card_filter, Finset.card_filter]
  exact Equiv.sum_comp σ fun o => if P o then 1 else 0

theorem above_perm (g : Fin 16 → EReal) (σ : Equiv.Perm (Fin 16)) (e : Fin 16) : above (fun k => g (σ k)) e = above g (σ e) :=
  card_perm σ fun o => g (σ e) < g o
theorem upto_perm (g : Fin 16 → EReal) (σ : Equiv.Perm (Fin 16)) (e : Fin 16) : upto (fun k => g (σ k)) e = upto g (σ e) :=
  card_perm σ fun o => g (σ e) ≤ g o

theorem Routed.perm {g : Fin 16 → EReal} (hg : Routed g) (σ : Equiv.Perm (Fin 16)) : Routed fun k => g (σ k) :=
  ⟨fun e => by rw [above_perm, upto_perm]; exact hg.clear _, fun e => hg.ne_top _⟩

theorem share_perm (g : Fin 16 → EReal) (σ : Equiv.Perm (Fin 16)) (e : Fin 16) : share (fun k => g (σ k)) e = share g (σ e) := by
  unfold share; rw [above_perm, best_perm]

/-! ## The weights agree -/

theorem kweight_eq_share (g : Fin 16 → EReal) (hg : Routed g) (k : Fin 16) :
    kweight g k = Ideal.div (share g k) (∑ k, share g k) ∧ ∃ w : ℝ, 0 ≤ w ∧ kweight g k = (w : EReal) := by
  obtain ⟨a, b, hab, ha, hb, hw⟩ := choices g hg
  have hb_bot : g b ≠ ⊥ := fun h => by
    obtain ⟨k, hk, hkb⟩ := exists_ne_bot g hg a
    exact hkb (le_bot_iff.1 (h ▸ hb k hk))
  have ha_bot : g a ≠ ⊥ := fun h => hb_bot (le_bot_iff.1 (h ▸ ha ▸ le_best g b))
  obtain ⟨ra, hra⟩ : ∃ r : ℝ, (r : EReal) = g a := ⟨_, EReal.coe_toReal (hg.ne_top a) ha_bot⟩
  obtain ⟨rb, hrb⟩ : ∃ r : ℝ, (r : EReal) = g b := ⟨_, EReal.coe_toReal (hg.ne_top b) hb_bot⟩
  have hexp : Ideal.exp (g b - g a) = ((Real.exp (rb - ra) : ℝ) : EReal) := by
    rw [← hra, ← hrb, ← EReal.coe_sub]; rfl
  have hexp0 : Ideal.exp (g a - g a) = ((1 : ℝ) : EReal) := by
    rw [← hra, ← EReal.coe_sub, sub_self]
    show ((Real.exp 0 : ℝ) : EReal) = _
    rw [Real.exp_zero]
  generalize hE : Real.exp (rb - ra) = E at hexp
  have hEpos : 0 < E := hE ▸ Real.exp_pos _
  have hshare : ∀ k, share g k = (if k = a then ((1 : ℝ) : EReal) else 0) + if k = b then (E : EReal) else 0 := by
    intro k
    unfold share
    simp only [above_lt_iff g hg a b hab ha hb]
    by_cases h1 : k = a
    · subst h1; rw [if_pos (.inl rfl), if_pos rfl, if_neg hab, add_zero, ← ha, hexp0]
    · by_cases h2 : k = b
      · subst h2; rw [if_pos (.inr rfl), if_neg h1, if_pos rfl, zero_add, ← ha, hexp]
      · rw [if_neg (by tauto), if_neg h1, if_neg h2, add_zero]
  have hsum : ∑ k, share g k = ((1 + E : ℝ) : EReal) := by
    rw [Finset.sum_congr rfl fun k _ => hshare k, Finset.sum_add_distrib, Finset.sum_ite_eq', Finset.sum_ite_eq',
      if_pos (Finset.mem_univ _), if_pos (Finset.mem_univ _), EReal.coe_add]
  have hdiv : ∀ r : ℝ, Ideal.div (r : EReal) ((1 + E : ℝ) : EReal) = ((r / (1 + E) : ℝ) : EReal) := by
    intro r
    unfold Ideal.div
    rw [if_neg (by exact_mod_cast (by positivity : (1 + E : ℝ) ≠ 0)), ← EReal.coe_inv, ← EReal.coe_mul, div_eq_mul_inv]
  have hone : Ideal.div 1 (1 + Ideal.exp (g b - g a)) = ((1 / (1 + E) : ℝ) : EReal) := by
    rw [hexp]; exact_mod_cast hdiv 1
  have hw' : ∀ k, kweight g k = (((if k = a then 1 / (1 + E) else 0) + if k = b then E / (1 + E) else 0 : ℝ) : EReal) := by
    intro k
    have hsub : (1 : EReal) - ((1 / (1 + E) : ℝ) : EReal) = ((E / (1 + E) : ℝ) : EReal) := by
      have : (E / (1 + E) : ℝ) = 1 - 1 / (1 + E) := by field_simp; ring
      rw [this, EReal.coe_sub]; rfl
    rw [hw k, hone, hsub, EReal.coe_add]
    congr 1 <;> split <;> simp
  refine ⟨?_, _, ?_, hw' k⟩
  · have hs : share g k = (((if k = a then 1 else 0) + if k = b then E else 0 : ℝ) : EReal) := by
      rw [hshare k, EReal.coe_add]
      congr 1 <;> split <;> simp
    rw [hw' k, hsum, hs, hdiv]
    congr 1
    split <;> split <;> simp [add_div]
  · have := hEpos.le
    split <;> split <;> positivity

/-- THE WEIGHTS AGREE: the kernel's, of the gates listed in any order, are the reference's. -/
theorem kweight_perm (g : Fin 16 → EReal) (hg : Routed g) (σ : Equiv.Perm (Fin 16)) (k : Fin 16) :
    kweight (fun k => g (σ k)) k = rweight g (σ k) := by
  rw [(kweight_eq_share _ (hg.perm σ) k).1, rweight_eq g hg, share_perm]
  congr 1
  rw [Finset.sum_congr rfl fun k _ => share_perm g σ k]
  exact Equiv.sum_comp σ (share g)

/-- A weight is a finite number, not negative. -/
theorem rweight_real (g : Fin 16 → EReal) (hg : Routed g) (e : Fin 16) : ∃ w : ℝ, 0 ≤ w ∧ rweight g e = (w : EReal) := by
  obtain ⟨w, h0, hw⟩ := (kweight_eq_share g hg e).2
  exact ⟨w, h0, by rw [← hw]; exact (kweight_perm g hg (Equiv.refl _) e).symm⟩

/-- Multiplying by a weight goes through a sum. -/
theorem sum_mul_weight {ι : Type} [DecidableEq ι] (s : Finset ι) (f : ι → EReal) (w : ℝ) (h : 0 ≤ w) :
    (∑ i ∈ s, f i) * (w : EReal) = ∑ i ∈ s, f i * (w : EReal) := by
  induction s using Finset.cons_induction with
  | empty => simp
  | cons a s ha ih =>
    rw [Finset.sum_cons, Finset.sum_cons, ← ih]
    exact EReal.right_distrib_of_nonneg_of_ne_top (by exact_mod_cast h) (EReal.coe_ne_top w) _ _

end Cert.Moe

end
-- ==== Proof.Payloads.lean ====
/-
What the kernel stores, read one entry at a time over the extended reals.
-/
module

public import proofs.«01_k».proof.Defs
public import proofs.«01_k».proof.Proof.Gen.KernelIdeal.Skeleton
public import proofs.«01_k».proof.Proof.Gen.KernelIdeal
public import Idealize.ShloMosaic.Lib.Pointwise
public import proofs.«01_k».proof.Proof.Weights

@[expose] public section

noncomputable section

namespace Cert.Moe

open Idealize.ShloMosaic
open Cert.KernelIdeal
open Cert.KernelIdeal.Gen

theorem cmpi_eq_one (a b : BitVec 32) : Scalar.cmpi .eq a b = 1#1 ↔ a = b := StableHlo.Predicate.cmpi_eq_iff

theorem pay1_apply (y : Vec Ideal S512x1024 .f32) (b : IVec S512x16 1) (w : Vec Ideal S512x16 .f32) (z : EReal) (a : Vec Ideal S512x1024 .f32) (i : Fin 512) (d : Fin 1024) :
    k0_pay1 (F := Ideal) y b w z a (ix2 i d) = a (ix2 i d) + y (ix2 i d) * ∑ k : Fin 16, Scalar.select (b (ix2 i k)) (w (ix2 i k)) z := by
  pointwise [k0_pay1]

theorem pay12_apply (x : Vec Ideal S512x1024 .f32) (u : Vec Ideal S1x1024x1024 .f32) (v : Vec Ideal S1x1024x1024 .f32) (i : Fin 512) (d : Fin 1024) :
    k0_pay12 (F := Ideal) x u v (ix2 i d) = ∑ k : Fin 1024, max (∑ l : Fin 1024, x (ix2 i l) * u (ix3 0 l k)) 0 * v (ix3 0 k d) := by
  pointwise [k0_pay12]

theorem pay7_apply (x : Vec Ideal S512x1024 .f32) (g0 : FVec Ideal S512x8 .f32) (r : FVec Ideal S1024x8 .f32) (i : Fin 512) (j : Fin 16) :
    k0_pay7 (F := Ideal) x g0 r (ix2 i j) = kweight (fun k => if h : k.val < 8 then g0 (ix2 i ⟨k.val, h⟩) else ∑ l : Fin 1024, x (ix2 i l) * r (ix2 l ⟨k.val - 8, by omega⟩)) j := by
  pointwise [k0_pay7, kweight, topWeight, crossed, pick, best]

theorem pay2_apply (z : BitVec 32) (a b c d : Vec Ideal S512x1024 .f32) (i j : Fin 1024) :
    k0_pay2 (F := Ideal) z a b c d (ix2 i j)
      = if z = 0#32 then (if h : i.val < 512 then a (ix2 ⟨i.val, h⟩ j) else b (ix2 ⟨i.val - 512, by omega⟩ j))
        else (if h : i.val < 512 then c (ix2 ⟨i.val, h⟩ j) else d (ix2 ⟨i.val - 512, by omega⟩ j)) := by
  pointwise [k0_pay2]
  rw [select_ite]; simp only [cmpi_eq_one]

theorem pay3_apply (r : Vec Ideal S1024x8 .f32) (l : Fin 1024) (k : Fin 8) : k0_pay3 (F := Ideal) r (ix3 0 l k) = r (ix2 l k) := by
  pointwise [k0_pay3]
theorem pay4_apply (a b : BitVec 32) (u v : Vec Ideal S512x1024 .f32) (i : Fin 512) (d : Fin 1024) : k0_pay4 (F := Ideal) a b u v (ix2 i d) = if a = b then u (ix2 i d) else v (ix2 i d) := by
  pointwise [k0_pay4]
  rw [select_ite]; simp only [cmpi_eq_one]
theorem pay5_apply (x : Vec Ideal S512x1024 .f32) (r : Vec Ideal S1x1024x8 .f32) (i : Fin 512) (k : Fin 8) : k0_pay5 (F := Ideal) x r (ix2 i k) = ∑ l : Fin 1024, x (ix2 i l) * r (ix3 0 l k) := by
  pointwise [k0_pay5]
theorem pay6_apply (r : Vec Ideal S1x1024x8 .f32) (l : Fin 1024) (k : Fin 8) : k0_pay6 (F := Ideal) r (ix2 l k) = r (ix3 0 l k) := by
  pointwise [k0_pay6]
theorem pay8_apply (u v : Vec Ideal S512x1024 .f32) (i : Fin 512) (d : Fin 1024) : k0_pay8 (F := Ideal) u v (ix2 i d) = u (ix2 i d) + v (ix2 i d) := by
  pointwise [k0_pay8]
theorem pay9_apply (a b : BitVec 32) (u v : Vec Ideal S512x1024 .f32) (i : Fin 512) (d : Fin 1024) : k0_pay9 (F := Ideal) a b u v (ix2 i d) = if a = b then u (ix2 i d) else v (ix2 i d) := by
  pointwise [k0_pay9]
  rw [select_ite]; simp only [cmpi_eq_one]
theorem pay10_apply (w : FVec Ideal S512x16 .f32) (i : Fin 512) (k : Fin 16) : k0_pay10 (F := Ideal) w (ix2 i k) = w (ix2 i k) := by
  pointwise [k0_pay10]
theorem pay11_apply (i : Fin 512) (d : Fin 1024) : k0_pay11 (F := Ideal) (ix2 i d) = 0 := by
  pointwise [k0_pay11]
theorem pay13_apply (c : grid0.Coords) (i : Fin 512) (k : Fin 16) : k0_pay13 c (ix2 i k) = IntOp.cmpi .eq (BitVec.ofNat 32 k.val) (BitVec.ofNat 32 (c 0).val) := by
  pointwise [k0_pay13]

end Cert.Moe
-- ==== Proof.RefRead.lean ====
/-
The reference's result and the mask, read one entry at a time over the extended reals.
-/
module

public import proofs.«01_k».proof.Defs
public import proofs.«01_k».proof.Proof.Gen.ReferenceIdeal
public import proofs.«01_k».proof.Proof.Gen.ReferenceIdeal.Run
public import Idealize.ShloMosaic.Lib.Pointwise
public import proofs.«01_k».proof.Proof.Weights
public import Idealize.ShloMosaic.Lib.Tactic.CleanTypes

@[expose] public section

noncomputable section

namespace Cert.Moe

open Idealize.ShloMosaic

instance routedFacts : Cert.On_routed.Facts where
  bcast_S2048x16_S2048x1x16_0_2 := by decide
  bcast_S2048x16_S2048x16x1_0_1 := by decide
  bcast_S2048x1x16_S2048x16x16_0_1_2 := by decide
  bcast_S2048x16x1_S2048x16x16_0_1_2 := by decide
  natLt_1_32 := by decide
  reducesTo_S2048x16x16_S2048x16_d2 := by decide
  h_S_ := by decide
  bcast_S_S2048x16 := by decide
  reducesTo_S2048x16_S2048_d1 := by decide
  bcast_S2048_S2048x1_0 := by decide
  bcast_S2048x1_S2048x1024_0_1 := by decide
  dot_S2048x1024_S1024x16_S2048x16_1_0_0_1_n_n_wf := by decide

/-- The gate of expert `e` for token `i`. -/
def gate (x : FVec Ideal ⟨2, ![2048, 1024]⟩ .f32) (r : FVec Ideal ⟨2, ![1024, 16]⟩ .f32) (i : Fin 2048) (e : Fin 16) : EReal :=
  ∑ l : Fin 1024, x (ix2 i l) * r (ix2 l e)

/-- What expert `e` makes of token `i`, at output place `d`. -/
def expertOut (x : FVec Ideal ⟨2, ![2048, 1024]⟩ .f32) (W1 : FVec Ideal ⟨3, ![16, 1024, 4096]⟩ .f32)
    (W2 : FVec Ideal ⟨3, ![16, 4096, 1024]⟩ .f32) (i : Fin 2048) (e : Fin 16) (d : Fin 1024) : EReal :=
  ∑ f : Fin 4096, max (∑ l : Fin 1024, W1 (ix3 e l f) * x (ix2 i l)) 0 * W2 (ix3 e f d)

/-- The layer's result for token `i` at place `d`. -/
def layer (x : FVec Ideal ⟨2, ![2048, 1024]⟩ .f32) (r : FVec Ideal ⟨2, ![1024, 16]⟩ .f32) (W1 : FVec Ideal ⟨3, ![16, 1024, 4096]⟩ .f32)
    (W2 : FVec Ideal ⟨3, ![16, 4096, 1024]⟩ .f32) (i : Fin 2048) (d : Fin 1024) : EReal :=
  ∑ e : Fin 16, expertOut x W1 W2 i e d * rweight (gate x r i) e

section
open Cert.On_routed

theorem routed_apply (x : FVec Ideal S2048x1024 .f32) (r : FVec Ideal S1024x16 .f32) (W1 : FVec Ideal S16x1024x4096 .f32)
    (W2 : FVec Ideal S16x4096x1024 .f32) (i : Fin 2048) (d : Fin 1024) :
    Cert.On_routed.fn (F := Ideal) x r W1 W2 (ix2 i d) = routedBit (gate x r i) := by
  pointwise [Cert.On_routed.fn, Cert.On_routed.fn_part1, routedBit, gate]
end

section
open Cert.ReferenceIdeal

theorem result_apply (m : (ℓ : Loc nD τ sig) → Buf (Elt Ideal) ℓ) (c : Dev nD) (i : Fin 2048) (d : Fin 1024) :
    Cert.ReferenceIdeal.Value.res_main_v41 (F := Ideal) m c (ix2 i d)
      = layer (m ((c.tc : Thread nD τ).loc main_arg0)) (m ((c.tc : Thread nD τ).loc main_arg1))
          (m ((c.tc : Thread nD τ).loc main_arg2)) (m ((c.tc : Thread nD τ).loc main_arg3)) i d := by
  unfold Cert.ReferenceIdeal.Value.res_main_v41
  clean_types
  pointwise [id, layer, expertOut, rweight, rshare, placeWord, best, gate]
end

end Cert.Moe

end
-- ==== Proof.KernelValue.lean ====
/-
What a device stores in its result, over the extended reals: the rows of the layer's result that it is to hold.
-/
module

public import proofs.«01_k».proof.Proof.Blocks
public import proofs.«01_k».proof.Proof.Payloads
public import proofs.«01_k».proof.Proof.RefRead

@[expose] public section

noncomputable section

namespace Cert.Moe

open Idealize.ShloMosaic
open Cert.KernelIdeal Cert.KernelIdeal.Gen

variable {m : (ℓ : Loc nD τ sig) → Buf (Elt Ideal) ℓ}
variable {X : FVec Ideal ⟨2, ![2048, 1024]⟩ .f32} {R : FVec Ideal ⟨2, ![1024, 16]⟩ .f32} {W1 : FVec Ideal ⟨3, ![16, 1024, 4096]⟩ .f32}
  {W2 : FVec Ideal ⟨3, ![16, 4096, 1024]⟩ .f32}

/-- The tokens a device works on. -/
theorem xcV_apply (h : Blocks m X R W1 W2) (c : Dev nD) (i : Fin 512) (d : Fin 1024) :
    xcV m c (ix2 i d) = X (ix2 (row (cx c) (cz c) i) d) := by
  unfold xcV
  rw [pay4_apply]
  by_cases hxy : cx c = cy c
  · rw [if_pos ((wx_eq_wy c).2 hxy), xown_apply h, hxy]
  · rw [if_neg (mt (wx_eq_wy c).1 hxy), xsent_apply h, cy_yp, cz_yp]
    have : 1 - cy c = cx c := by
      revert hxy; generalize cx c = a; generalize cy c = b; revert a b; decide
    rw [this]

/-- A device lists its own eight experts first. -/
def order (c : Dev nD) : Equiv.Perm (Fin 16) := Equiv.addRight ⟨8 * (cy c).val, by omega⟩

theorem order_lt (c : Dev nD) (k : Fin 16) (hk : k.val < 8) : order c k = expert (cy c) ⟨k.val, hk⟩ := by
  revert c k; decide
theorem order_ge (c : Dev nD) (k : Fin 16) (hk : ¬k.val < 8) : order c k = expert (cy (yp c)) ⟨k.val - 8, by omega⟩ := by
  revert c k; decide

/-- The weights a device computes, for the tokens it works on. -/
theorem wmatV_apply (h : Blocks m X R W1 W2) (c : Dev nD) (i : Fin 512) (hg : Routed (gate X R (row (cx c) (cz c) i))) (k : Fin 16) :
    wmatV m c (ix2 i k) = rweight (gate X R (row (cx c) (cz c) i)) (order c k) := by
  unfold wmatV
  rw [pay10_apply, pay7_apply, ← kweight_perm _ hg]
  congr 1
  funext k
  split
  · rename_i hk
    rw [pay5_apply, order_lt c k hk]
    refine Finset.sum_congr rfl fun l _ => ?_
    rw [xcV_apply h, pay3_apply, rstg_apply h]
  · rename_i hk
    rw [order_ge c k hk]
    refine Finset.sum_congr rfl fun l _ => ?_
    rw [xcV_apply h, pay6_apply, pay3_apply, rstg_apply h]

/-! ## The sum over the grid -/

/-- What hidden block `f` of expert `e` makes of token `i`, at output place `d`. -/
def blockOut (X : FVec Ideal ⟨2, ![2048, 1024]⟩ .f32) (W1 : FVec Ideal ⟨3, ![16, 1024, 4096]⟩ .f32)
    (W2 : FVec Ideal ⟨3, ![16, 4096, 1024]⟩ .f32) (i : Fin 2048) (e : Fin 16) (f : Fin 4) (d : Fin 1024) : EReal :=
  ∑ k : Fin 1024, max (∑ l : Fin 1024, W1 (ix3 e l (place f k)) * X (ix2 i l)) 0 * W2 (ix3 e (place f k) d)

theorem expertOut_eq (i : Fin 2048) (e : Fin 16) (d : Fin 1024) : expertOut X W1 W2 i e d = ∑ f : Fin 4, blockOut X W1 W2 i e f d := by
  unfold expertOut blockOut
  rw [← Equiv.sum_comp (finProdFinEquiv (m := 4) (n := 1024)), Fintype.sum_prod_type]
  refine Finset.sum_congr rfl fun f _ => Finset.sum_congr rfl fun k _ => ?_
  have : (finProdFinEquiv (f, k) : Fin (4 * 1024)) = place f k := by
    apply Fin.ext
    show k.val + 1024 * f.val = 1024 * f.val + k.val
    omega
  rw [this]

theorem coords_te (t : Fin cfg0.N) : ((grid0.coords t) 0).val = (te t).val := by revert t; decide

theorem pick_column (w : Fin 16 → EReal) (e : Fin 8) :
    (∑ k : Fin 16, Scalar.select (IntOp.cmpi .eq (BitVec.ofNat 32 k.val) (BitVec.ofNat 32 e.val)) (w k) 0) = w ⟨e.val, by omega⟩ := by
  rw [Finset.sum_eq_single (⟨e.val, by omega⟩ : Fin 16)]
  · rw [select_ite, if_pos ((word_eq_iff _ _).2 rfl)]
  · intro k _ hk
    rw [select_ite, if_neg (fun hc => hk ((word_eq_iff k ⟨e.val, by omega⟩).1 hc))]
  · intro hk; exact absurd (Finset.mem_univ _) hk

/-- One grid point's part of the sum. -/
theorem accStep_apply (h : Blocks m X R W1 W2) (c : Dev nD) (t : Fin cfg0.N) (a : Vec Ideal S512x1024 .f32) (i : Fin 512)
    (hg : Routed (gate X R (row (cx c) (cz c) i))) (d : Fin 1024) :
    accStep m c t a (ix2 i d) = a (ix2 i d) + blockOut X W1 W2 (row (cx c) (cz c) i) (expert (cy c) (te t)) (tf t) d
      * rweight (gate X R (row (cx c) (cz c) i)) (expert (cy c) (te t)) := by
  have h1 : k0_pay12 (F := Ideal) (xcV m c) (w1At m c t) (w2At m c t) (ix2 i d)
      = blockOut X W1 W2 (row (cx c) (cz c) i) (expert (cy c) (te t)) (tf t) d := by
    rw [pay12_apply]
    unfold blockOut
    refine Finset.sum_congr rfl fun k _ => ?_
    have hs : (∑ l : Fin 1024, xcV m c (ix2 i l) * w1At m c t (ix3 0 l k) : EReal)
        = ∑ l : Fin 1024, W1 (ix3 (expert (cy c) (te t)) l (place (tf t) k)) * X (ix2 (row (cx c) (cz c) i) l) :=
      Finset.sum_congr rfl fun l _ => by rw [w1At_apply h, xcV_apply h, mul_comm]
    rw [hs, w2At_apply h]
  have h2 : (∑ k : Fin 16, Scalar.select (k0_pay13 (grid0.coords t) (ix2 i k)) (wmatV m c (ix2 i k)) (0 : EReal))
      = rweight (gate X R (row (cx c) (cz c) i)) (expert (cy c) (te t)) := by
    refine Eq.trans (Finset.sum_congr rfl fun k _ => ?_) ((pick_column (fun k => rweight (gate X R (row (cx c) (cz c) i)) (order c k)) (te t)).trans ?_)
    · rw [pay13_apply, coords_te, wmatV_apply h c i hg]
    · exact congrArg _ (order_lt c ⟨(te t).val, by omega⟩ (te t).isLt)
  have hz : (Scalar.ofBits .f32 0#32 : Ideal .f32) = (0 : EReal) := Ideal.ofBits_zero_f32
  unfold accStep
  rw [hz]
  refine (pay1_apply _ _ _ _ _ i d).trans ?_
  rw [h1]
  exact congrArg (fun s : EReal => a (ix2 i d) + _ * s) h2

theorem acc_apply (h : Blocks m X R W1 W2) (c : Dev nD) (i : Fin 512) (hg : Routed (gate X R (row (cx c) (cz c) i))) (d : Fin 1024)
    (n : ℕ) (hn : n ≤ 32) : acc m c n (ix2 i d) = ∑ s : Fin n,
      blockOut X W1 W2 (row (cx c) (cz c) i) (expert (cy c) (te (tAt s.val (by omega)))) (tf (tAt s.val (by omega))) d
        * rweight (gate X R (row (cx c) (cz c) i)) (expert (cy c) (te (tAt s.val (by omega)))) := by
  induction n with
  | zero => rw [Fin.sum_univ_zero]; exact pay11_apply i d
  | succ n ih =>
    have hs : acc m c (n + 1) = accStep m c (tAt n (by omega)) (acc m c n) := acc_succ m c (tAt n (by omega))
    rw [hs, accStep_apply h c _ _ i hg, ih (by omega), Fin.sum_univ_castSucc]
    simp only [Fin.val_castSucc, Fin.val_last]

/-- What a device's own eight experts make of its tokens, weighted. -/
theorem contribV_apply (h : Blocks m X R W1 W2) (c : Dev nD) (i : Fin 512) (hg : Routed (gate X R (row (cx c) (cz c) i))) (d : Fin 1024) :
    contribV m c (ix2 i d) = ∑ e : Fin 8, expertOut X W1 W2 (row (cx c) (cz c) i) (expert (cy c) e) d
      * rweight (gate X R (row (cx c) (cz c) i)) (expert (cy c) e) := by
  unfold contribV
  rw [acc_apply h c i hg d 32 le_rfl, ← Equiv.sum_comp (finProdFinEquiv (m := 8) (n := 4)), Fintype.sum_prod_type]
  refine Finset.sum_congr rfl fun e _ => ?_
  obtain ⟨w, hw0, hw⟩ := rweight_real _ hg (expert (cy c) e)
  rw [expertOut_eq, hw, sum_mul_weight _ _ w hw0, ← hw]
  refine Finset.sum_congr rfl fun f _ => ?_
  have hval : (finProdFinEquiv (e, f) : Fin (8 * 4)).val = f.val + 4 * e.val := rfl
  have h1 : ∀ hh, te (tAt (finProdFinEquiv (e, f) : Fin (8 * 4)).val hh) = e := fun hh => by
    apply Fin.ext; show (finProdFinEquiv (e, f) : Fin (8 * 4)).val / 4 = e.val; rw [hval]; omega
  have h2 : ∀ hh, tf (tAt (finProdFinEquiv (e, f) : Fin (8 * 4)).val hh) = f := fun hh => by
    apply Fin.ext; show (finProdFinEquiv (e, f) : Fin (8 * 4)).val % 4 = f.val; rw [hval]; omega
  rw [h1, h2]

/-! ## Adding along `y`, choosing along `x`, completing along `z` -/

theorem sum_experts (f : Fin 16 → EReal) (a : Fin 2) :
    (∑ e : Fin 8, f (expert a e)) + (∑ e : Fin 8, f (expert (1 - a) e)) = ∑ e : Fin 16, f e := by
  have h : ∑ e : Fin 16, f e = (∑ e : Fin 8, f (expert 0 e)) + ∑ e : Fin 8, f (expert 1 e) := by
    rw [Fin.sum_univ_add (a := 8) (b := 8) (f := f)]
    congr 1 <;> refine Finset.sum_congr rfl fun e _ => congrArg f (Fin.ext ?_)
  rw [h]
  match a with
  | 0 => rfl
  | 1 => exact add_comm _ _

theorem csumV_apply (h : Blocks m X R W1 W2) (c : Dev nD) (i : Fin 512) (hg : Routed (gate X R (row (cx c) (cz c) i))) (d : Fin 1024) :
    csumV m c (ix2 i d) = layer X R W1 W2 (row (cx c) (cz c) i) d := by
  have hy := contribV_apply h (yp c) i (by rw [cx_yp, cz_yp]; exact hg) d
  rw [cx_yp, cz_yp, cy_yp] at hy
  unfold csumV
  rw [pay8_apply, contribV_apply h c i hg, hy]
  exact sum_experts (fun e => expertOut X W1 W2 (row (cx c) (cz c) i) e d * rweight (gate X R (row (cx c) (cz c) i)) e) (cy c)

theorem keepV_apply (h : Blocks m X R W1 W2) (c : Dev nD) (i : Fin 512) (hg : Routed (gate X R (row (cy c) (cz c) i))) (d : Fin 1024) :
    keepV m c (ix2 i d) = layer X R W1 W2 (row (cy c) (cz c) i) d := by
  unfold keepV
  rw [pay9_apply]
  by_cases hxy : cx c = cy c
  · rw [if_pos ((wx_eq_wy c).2 hxy), csumV_apply h c i (hxy ▸ hg), hxy]
  · have hx : cx (xp c) = cy c := by
      rw [cx_xp]
      revert hxy; generalize cx c = a; generalize cy c = b; revert a b; decide
    have := csumV_apply h (xp c) i (by rw [hx, cz_xp]; exact hg) d
    rw [hx, cz_xp] at this
    rw [if_neg (mt (wx_eq_wy c).1 hxy), this]

/-- THE KERNEL'S VALUE: row `i` of a device's result is the layer's result for token `i` of its shard. -/
theorem outV_apply (h : Blocks m X R W1 W2) (c : Dev nD) (i d : Fin 1024)
    (hg : Routed (gate X R ⟨1024 * (cy c).val + i.val, by omega⟩)) :
    outV m c (ix2 i d) = layer X R W1 W2 ⟨1024 * (cy c).val + i.val, by omega⟩ d := by
  have hk : ∀ (b : Dev nD) (j : Fin 512), 1024 * (cy b).val + 512 * (cz b).val + j.val = 1024 * (cy c).val + i.val →
      keepV m b (ix2 j d) = layer X R W1 W2 ⟨1024 * (cy c).val + i.val, by omega⟩ d := by
    intro b j hb
    have hr : row (cy b) (cz b) j = ⟨1024 * (cy c).val + i.val, by omega⟩ := Fin.ext hb
    rw [keepV_apply h b j (by rw [hr]; exact hg), hr]
  have hz := cz_zp c
  have hy := cy_zp c
  unfold outV
  rw [pay2_apply]
  have hc : cz c = 0 ∨ cz c = 1 := by generalize cz c = a; revert a; decide
  rcases hc with hc | hc
  · rw [if_pos ((wz_eq_zero c).2 hc)]
    rw [hc] at hz
    split
    · exact hk _ _ (by rw [hc]; show _ + 512 * 0 + i.val = _; omega)
    · exact hk _ _ (by rw [hy, hz]; show _ + 512 * 1 + (i.val - 512) = _; omega)
  · rw [if_neg (mt (wz_eq_zero c).1 (by rw [hc]; decide))]
    rw [hc] at hz
    split
    · exact hk _ _ (by rw [hy, hz]; show _ + 512 * 0 + i.val = _; omega)
    · exact hk _ _ (by rw [hc]; show _ + 512 * 1 + (i.val - 512) = _; omega)

end Cert.Moe

end
-- ==== Proof.Rules.lean ====
/-
The kernel's three kinds of step on its semaphores, each as one rule: a signal to a neighbour's barrier, a transfer
into a neighbour's buffer, and a wait that closes the waited cell.
-/
module

public import proofs.«01_k».proof.Proof.Proto

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

/-- What device `c` owes, whatever waits it has recorded. -/
def ow (c : Dev nD) (O : CellTallies nD τ sig Unit) : sProp 𝕄 := iprop(∃ W, owes (c : Thread nD τ) O W)

section
variable {α : Type}

/-- A signal of one unit to device `n`'s barrier: it pays the duty `d` there. -/
theorem wp_sig {Q : α → sProp 𝕄} {k : PUnit → Prog (TpuEff nD τ sig (Elt F) Λ₀ .tc) α} (c n : Dev nD) (d : Fin 3) (O : CellTallies nD τ sig Unit) (s : Sem sig) (hs : s = barS) (a : ℕ) (ha : a = 1) :
    iprop(records m K ∗ ow c (O + tallyAt (barCell n) () 1) ∗ dutyTok ER (barCell n) 0 d ∗ barPay n d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s a) k) Q) := by
  subst hs ha
  iintro ⟨#HR, HO, Ht, Hp⟩ Hk
  unfold ow
  icases HO with ⟨%W, HO⟩
  iapply (Rounds.wp_signal 𝒱₀ ER (rd m) (c : Thread nD τ) none (dst := (n : Thread nD τ)) (κ := K (n, 0))
      (d := d) (by rw [duties_bar]; exact Finset.mem_univ _) (amount_bar m n d) () O rfl) $$ [HO Ht Hp]
  · isplitr; · iapply (inv_bar m K n); iexact HR
    isplitl [HO]; · iexact HO
    isplitl [Ht]; · iexact Ht
    isplitl [Hp]; · rw [payload_bar]; iexact Hp
    iapply (reached_bar m K n); iexact HR
  iintro HO
  iapply Hk
  iexists W; iexact HO

/-- The wait for the three barrier units: the neighbours' landing buffers come with it, and the cell is closed. -/
theorem wp_wait_bar {Q : α → sProp 𝕄} {k : PUnit → Prog (TpuEff nD τ sig (Elt F) Λ₀ .tc) α} (c : Dev nD) (s : Sem sig) (hs : s = barS) (a : ℕ) (ha : a = 3) (O : CellTallies nD τ sig Unit) (hO : Above 1 O) :
    iprop(records m K ∗ levAts L lv ∗ cred (tallyAt (barCell c) () 3) ∗ ow c O ∗ atPos ER (barCell c) 0 ∅ 0)
      ⊢ iprop(((ow c O ∗ (barPay c 0 ∗ barPay c 1 ∗ barPay c 2) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  iintro ⟨#HR, #Hlev, Hc, HO, Hat⟩ Hk
  unfold ow
  icases HO with ⟨%W, HO⟩
  iapply (Rounds.wp_wait_rest_token 𝒱₀ ER (rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_of c (.reg barS) 1 O (by decide) hO); iexact Hlev
    iexact Hat
  iintro ⟨HO, Hat, -, Hpay⟩
  ihave Hp := (Entails.of_eq (rest_bar m c)) $$ Hpay
  ihave #HI := (inv_bar m K c) $$ HR
  imod (Rounds.cell_close ER (rd m) (Set.mem_univ (K (c, 0))) (fun h => h) (R := 0 + 1) (duties_later m (barCell c))) $$ [Hat] with Hz
  · isplitr; · iexact HI
    iexact Hat
  iapply Hk
  isplitl [HO]; · iexists _; iexact HO
  isplitl [Hp]; · iexact Hp
  iexact Hz

/-- A wait on the transfer cell `j`: what the cell brings, and the cell is closed. -/
theorem wp_wait_d {Q : α → sProp 𝕄} {k : PUnit → Prog (TpuEff nD τ sig (Elt F) Λ₀ .tc) α} (c : Dev nD) (j : Fin 10) {sp sp' : Space} {s s' : Shape} {e e' : EltTy} {sem : DmaSem sig} (hs : sem = dsem j)
    {src : Memref sig .tc sp' s' e'} {dst : Memref sig .tc sp s e} {hsrc : src.view.WordExact} {hdst : dst.view.WordExact}
    (hcr : dst.view.dmaCredit = Nk j) (O : CellTallies nD τ sig Unit) (n : ℕ) (hj : slv (.dma (dsem j)) ≤ n) (hO : Above n O) :
    iprop(records m K ∗ levAts L lv ∗ cred (tallyAt (dcell c j) () (Nk j)) ∗ ow c O ∗ atPos ER (dcell c j) 0 ∅ 0)
      ⊢ iprop(((ow c O ∗ dpay m c j ∗ semVal (dcell c j) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  iintro ⟨#HR, #Hlev, Hc, HO, Hat⟩ Hk
  unfold ow
  icases HO with ⟨%W, HO⟩
  iapply (Rounds.wp_wait_rest_token 𝒱₀ ER (rd m) (c : Thread nD τ) none (κ := K (c, j.succ))
      (wpE_waitDma2_eq 𝒱₀ (c : Thread nD τ) none Set.univ) (Set.mem_univ _) () (O := O) (W := W) (R := 0) (m := 0) (T := ∅)
      (by rw [Nat.zero_add, expect_d, hcr])) $$ [Hc HO Hat]
  · isplitr; · iapply (inv_d m K c j); iexact HR
    isplitl [Hc]; · rw [hcr]; iexact Hc
    isplitl [HO]; · iexact HO
    isplitr; · iapply (mayWait_of c (.dma (dsem j)) n O hj hO); iexact Hlev
    iexact Hat
  iintro ⟨HO, Hat, -, Hpay⟩
  ihave Hp := (Entails.of_eq (rest_d m c j)) $$ Hpay
  ihave #HI := (inv_d m K c j) $$ HR
  imod (Rounds.cell_close ER (rd m) (Set.mem_univ (K (c, j.succ))) (fun h => h) (R := 0 + 1) (duties_later m (dcell c j))) $$ [Hat] with Hz
  · isplitr; · iexact HI
    iexact Hat
  iapply Hk
  isplitl [HO]; · iexists _; iexact HO
  isplitl [Hp]; · iexact Hp
  iexact Hz

/-- A transfer from device `c` into device `n`'s buffer: it pays the sent cell `i` of `c` and the landing cell `j` of `n`. -/
theorem wp_send_d {Q : α → sProp 𝕄} {k : PUnit → Prog (TpuEff nD τ sig (Elt F) Λ₀ .tc) α} (c n n' : Dev nD) (hn : n' = n) (i j : Fin 10) {sp sp' : Space} {s : Shape} {e : EltTy} {sS sR : DmaSem sig} (hsS : sS = dsem i) (hsR : sR = dsem j)
    {src : Memref sig .tc sp s e} {dst : Memref sig .tc sp' s e} {hsc : dst.view.ref.isScScratch = false}
    {hsrc : src.view.WordExact} {hdst : dst.view.WordExact}
    {hsem : DmaTarget.Typed sp (.dma sR) (.remote (Dev.tc n' : Thread nD τ) dst (.dma sS) hsc)}
    (hcr : dst.view.dmaCredit = Nk j) (hij : Nk i = Nk j)
    (fs : Buf (Elt F) (src.view.loc (c : Thread nD τ))) (fd : Buf (Elt F) (dst.view.loc (n : Thread nD τ)))
    (O : CellTallies nD τ sig Unit)
    (hpS : (src.view.loc (c : Thread nD τ) ↦[src.view.set]{fullShare} fs) ⊢ dpay m c i)
    (hpR : (dst.view.loc (n : Thread nD τ) ↦[dst.view.set]{fullShare} (dst.view.write (Elt F) fd (src.view.read (Elt F) fs) Finset.univ)) ⊢ dpay m n j) :
    iprop(records m K ∗ (src.view.loc (c : Thread nD τ) ↦[src.view.set]{fullShare} fs) ∗ (dst.view.loc (n : Thread nD τ) ↦[dst.view.set]{fullShare} fd)
        ∗ ow c (O + tallyAt (dcell n j) () (Nk j)) ∗ dutyTok ER (dcell c i) 0 0 ∗ dutyTok ER (dcell n j) 0 0)
      ⊢ iprop(((cred (tallyAt (dcell c i) () (Nk i)) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hn hsS hsR
  iintro ⟨#HR, Hs, Hd, HO, Ht1, Ht2⟩ Hk
  unfold ow
  icases HO with ⟨%W, HO⟩
  iapply (Rounds.wp_send_pointsTo 𝒱₀ ER (rd m) (c : Thread nD τ) none (κ₁ := K (c, i.succ)) (κ₂ := K (n', j.succ))
    (r₁ := 0) (r₂ := 0) (d₁ := 0) (d₂ := 0) (fd := fd)
    (by rw [duties_d]; exact Finset.mem_singleton_self _) (by rw [duties_d]; exact Finset.mem_singleton_self _)
    () () (Nk j) (by rw [View.amount_dma]; exact hcr) ((amount_d m c i 0).trans hij) (amount_d m n' j 0) O rfl (W := W)
    (by rw [payload_d]; exact hpS) (by rw [payload_d]; exact hpR)) $$ [Hs Hd HO Ht1 Ht2]
  · isplitr; · iapply (inv_d m K c i); iexact HR
    isplitr; · iapply (inv_d m K n' j); iexact HR
    isplitl [Hs]; · iexact Hs
    isplitl [Hd]; · iexact Hd
    isplitl [HO]; · iexact HO
    isplitl [Ht1]; · iexact Ht1
    isplitr; · iapply (reached_d m K c i); iexact HR
    isplitl [Ht2]; · iexact Ht2
    iapply (reached_d m K n' j); iexact HR
  iintro ⟨Hc, HO⟩
  iapply Hk
  isplitl [Hc]; · rw [hij]; iexact Hc
  iexists W; iexact HO

end

/-! ## Whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

section
variable {α : Type}

variable (i : Fin (sig.nNear .tc .vmem)) {hκ : sig.names .tc .vmem i = true}

/-- A load of a whole buffer is its contents. -/
theorem wp_load_pts {Q : α → sProp 𝕄} (c : Dev nD) {off : Fin (⟨.vmem, i, hκ⟩ : Ref sig .tc).ty.shape.rank → Nat} (h : off = fun _ => 0)
    {inb : ∀ a, off a + (⟨.vmem, i, hκ⟩ : Ref sig .tc).ty.shape.size a ≤ (⟨.vmem, i, hκ⟩ : Ref sig .tc).ty.shape.size a}
    {hl : (Memref.whole (⟨.vmem, i, hκ⟩ : Ref sig .tc)).view.LoadsAt (Rect.unit off (⟨.vmem, i, hκ⟩ : Ref sig .tc).ty.shape.size inb).toLoadRect}
    {k : ((⟨.vmem, i, hκ⟩ : Ref sig .tc).ty.shape.Idx → Elt F (⟨.vmem, i, hκ⟩ : Ref sig .tc).ty.elt) → Prog (TpuEff nD τ sig (Elt F) Λ₀ .tc) α}
    (f : (⟨.vmem, i, hκ⟩ : Ref sig .tc).ty.Contents (Elt F)) :
    pts c ⟨.vmem, i, hκ⟩ f
      ⊢ iprop((pts c ⟨.vmem, i, hκ⟩ f -∗ wp frame (wpE (defs₀ (F := F)) 𝒱₀ (c : Thread nD τ) none) Set.univ (k f) Q)
        -∗ wp frame (wpE (defs₀ (F := F)) 𝒱₀ (c : Thread nD τ) none) Set.univ
            (.op (.load (Memref.whole (⟨.vmem, i, hκ⟩ : Ref sig .tc)) (Rect.unit off (⟨.vmem, i, hκ⟩ : Ref sig .tc).ty.shape.size inb).toLoadRect hl) k) Q) := by
  have H := wp_load (defs := defs₀ (F := F)) (Q := Q) (k := k) (Ix := Unit) (Name := ℕ) (U := UU) (Lvl := ℕ) (Γ := .empty) 𝒱₀ (c : Thread nD τ) none Set.univ (m := Memref.whole (⟨.vmem, i, hκ⟩ : Ref sig .tc)) (hl := hl) (q := fullShare) (f := f) (Finset.subset_univ _)
  rw [Memref.readAt_unit_zero (Elt F) _ h] at H
  exact H

/-- A store over a whole buffer leaves the stored contents. -/
theorem wp_store_pts {Q : α → sProp 𝕄} (c : Dev nD) {off : Fin (⟨.vmem, i, hκ⟩ : Ref sig .tc).ty.shape.rank → Nat} (h : off = fun _ => 0)
    {inb : ∀ a, off a + (⟨.vmem, i, hκ⟩ : Ref sig .tc).ty.shape.size a ≤ (⟨.vmem, i, hκ⟩ : Ref sig .tc).ty.shape.size a}
    {w : (⟨.vmem, i, hκ⟩ : Ref sig .tc).ty.Contents (Elt F)}
    {hx : ((Memref.whole (⟨.vmem, i, hκ⟩ : Ref sig .tc)).access (Rect.unit off (⟨.vmem, i, hκ⟩ : Ref sig .tc).ty.shape.size inb)).Stores Finset.univ}
    {hm : (Finset.univ : Finset ((Rect.unit off (⟨.vmem, i, hκ⟩ : Ref sig .tc).ty.shape.size inb).shape.Idx)) = Finset.univ ∨ ∀ a, (Rect.unit off (⟨.vmem, i, hκ⟩ : Ref sig .tc).ty.shape.size inb).stride a = 1}
    {k : PUnit → Prog (TpuEff nD τ sig (Elt F) Λ₀ .tc) α}
    (f : (⟨.vmem, i, hκ⟩ : Ref sig .tc).ty.Contents (Elt F)) :
    pts c ⟨.vmem, i, hκ⟩ f
      ⊢ iprop((pts c ⟨.vmem, i, hκ⟩ w -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole (⟨.vmem, i, hκ⟩ : Ref sig .tc)) (Rect.unit off (⟨.vmem, i, hκ⟩ : Ref sig .tc).ty.shape.size inb) w Finset.univ hx hm) k) Q) := by
  have H := wp_store (defs := defs₀ (F := F)) (Q := Q) (k := k) (Ix := Unit) (Name := ℕ) (U := UU) (Lvl := ℕ) (Γ := .empty) 𝒱₀ (c : Thread nD τ) none Set.univ (m := Memref.whole (⟨.vmem, i, hκ⟩ : Ref sig .tc))
    (w := w) (Mk := Finset.univ) (hx := hx) (hm := hm) (f := f) (Finset.subset_univ _)
  rw [Memref.write_access_unit_zero_univ (Elt F) _ h] at H
  exact H

end

end Cert.Moe

end
-- ==== Proof.BodyMid.lean ====
/-
The body at a middle point of the grid: one step of the accumulation.
-/
module

public import proofs.«01_k».proof.Proof.Rules
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

/-- A load through the whole of a staged block gives the block. -/
theorem wp_load_owns {α : Type} {Q : α → sProp 𝕄} (c : Dev nD) {cs : CoreSpace} {s : Shape} {e : EltTy} (a : Memref sig .tc cs s e)
    {off : Fin s.rank → Nat} (h : off = fun _ => 0) {inb : ∀ x, off x + s.size x ≤ s.size x}
    {hl : a.view.LoadsAt (Rect.unit off s.size inb).toLoadRect}
    {k : (s.Idx → Elt F e) → Prog (TpuEff nD τ sig (Elt F) Λ₀ .tc) α} (X : s.Idx → Elt F e) :
    (owns (c : Thread nD τ) a fullShare X : sProp 𝕄)
      ⊢ iprop((owns (c : Thread nD τ) a fullShare X -∗ wp frame (wpE (defs₀ (F := F)) 𝒱₀ (c : Thread nD τ) none) Set.univ (k X) Q)
        -∗ wp frame (wpE (defs₀ (F := F)) 𝒱₀ (c : Thread nD τ) none) Set.univ (.op (.load a (Rect.unit off s.size inb).toLoadRect hl) k) Q) := by
  unfold owns
  iintro ⟨%f, %hf, H⟩ Hk
  subst hf
  iapply (wp_load 𝒱₀ (c : Thread nD τ) none Set.univ (m := a) (View.setOn_subset_set _ _)) $$ H
  iintro H
  rw [View.readAt_eq_ld, View.ld_unit_zero h]
  iapply Hk
  iexists f
  isplitr; · (ipureintro; rfl)
  iexact H

/-- One step of the accumulation. -/
theorem body_mid (c : Dev nD) (t : Fin cfg0.N) (h1 : ¬ k0_cond1 (grid0.coords t) = 1#1) (h2 : ¬ k0_cond2 (grid0.coords t) = 1#1)
    (a4 a5 : Memref sig .tc .vmem S1x1024x1024 .f32) (h4 : a4.IsWhole) (h5 : a5.IsWhole) (Q : PUnit → sProp 𝕄) :
    iprop(work m c t.val ∗ owns (c : Thread nD τ) a4 fullShare (w1At m c t) ∗ owns (c : Thread nD τ) a5 fullShare (w2At m c t)
        ∗ ((work m c (t.val + 1) ∗ owns (c : Thread nD τ) a4 fullShare (w1At m c t) ∗ owns (c : Thread nD τ) a5 fullShare (w2At m c t)) -∗ Q ⟨⟩))
      ⊢ wp frame (wpE (defs₀ (F := F)) 𝒱₀ (c : Thread nD τ) none) Set.univ
          (cc0_body (grid0.coords t) xM (Memref.isWhole_whole _) rM (Memref.isWhole_whole _) a4 h4 a5 h5 oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9) Q := by
  rw [cc0_body_eq_skeleton]; unfold cc0_body_skel
  rw [k0_part7_eq_skeleton]; unfold k0_part7_skel
  simp only [dif_neg h1, dif_neg h2, Prog.lift, Prog.bind_op, Prog.bind_ret, Prog.pure_eq_ret, wp_deviceId]
  unfold work
  iintro ⟨⟨Hx, Hw, Ha⟩, H4, H5, Hk⟩
  iapply (wp_load_pts 7 (hκ := rfl) c hz2 (xcV m c)) $$ Hx; iintro Hx
  iapply (wp_load_owns c a4 hz3 (w1At m c t)) $$ H4; iintro H4
  iapply (wp_load_owns c a5 hz3 (w2At m c t)) $$ H5; iintro H5
  iapply (wp_load_pts 10 (hκ := rfl) c hz2 (wmatV m c)) $$ Hw; iintro Hw
  iapply (wp_load_pts 11 (hκ := rfl) c hz2 (acc m c t.val)) $$ Ha; iintro Ha
  iapply (wp_load_pts 11 (hκ := rfl) c hz2 (acc m c t.val)) $$ Ha; iintro Ha
  iapply (wp_store_pts 11 (hκ := rfl) c hz2 (acc m c t.val)) $$ Ha; iintro Ha
  rw [wp_ret]; imodintro
  iapply Hk
  rw [acc_succ]; unfold accStep
  isplitl [Hx Hw Ha]
  · isplitl [Hx]; · iexact Hx
    isplitl [Hw]; · iexact Hw
    iexact Ha
  isplitl [H4]; · iexact H4
  iexact H5

end Cert.Moe

end
-- ==== Proof.Pieces.lean ====
/-
The accesses of the first point: the halves of the router buffer, the rows of the token block sent along `y`, the ten
transfer semaphores.
-/
module

public import proofs.«01_k».proof.Proof.BodyMid
public import Idealize.ShloMosaic.Lib.Pointwise.Reshape
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

/-! ## The transfer semaphores -/

theorem sem0 : ((cc0_scratch9.slice (Rect.unit (s := S10) ![0] S1.size inb_S10_S1_0)).squeeze S_ squeezes_S1_S_).sem = dsem 0 := rfl
theorem sem1 : ((cc0_scratch9.slice (Rect.unit (s := S10) ![1] S1.size inb_S10_S1_1)).squeeze S_ squeezes_S1_S_).sem = dsem 1 := rfl
theorem sem2 : ((cc0_scratch9.slice (Rect.unit (s := S10) ![2] S1.size inb_S10_S1_2)).squeeze S_ squeezes_S1_S_).sem = dsem 2 := rfl
theorem sem3 : ((cc0_scratch9.slice (Rect.unit (s := S10) ![3] S1.size inb_S10_S1_3)).squeeze S_ squeezes_S1_S_).sem = dsem 3 := rfl
theorem sem4 : ((cc0_scratch9.slice (Rect.unit (s := S10) ![4] S1.size inb_S10_S1_4)).squeeze S_ squeezes_S1_S_).sem = dsem 4 := rfl
theorem sem5 : ((cc0_scratch9.slice (Rect.unit (s := S10) ![5] S1.size inb_S10_S1_5)).squeeze S_ squeezes_S1_S_).sem = dsem 5 := rfl
theorem sem6 : ((cc0_scratch9.slice (Rect.unit (s := S10) ![6] S1.size inb_S10_S1_6)).squeeze S_ squeezes_S1_S_).sem = dsem 6 := rfl
theorem sem7 : ((cc0_scratch9.slice (Rect.unit (s := S10) ![7] S1.size inb_S10_S1_7)).squeeze S_ squeezes_S1_S_).sem = dsem 7 := rfl
theorem sem8 : ((cc0_scratch9.slice (Rect.unit (s := S10) ![8] S1.size inb_S10_S1_8)).squeeze S_ squeezes_S1_S_).sem = dsem 8 := rfl
theorem sem9 : ((cc0_scratch9.slice (Rect.unit (s := S10) ![9] S1.size inb_S10_S1_9)).squeeze S_ squeezes_S1_S_).sem = dsem 9 := rfl

/-! ## The credit of each transfer -/

theorem Nk_b (k : Fin 10) (h : ¬ (k = 2 ∨ k = 3)) : Nk k = Nb := by unfold Nk; rw [if_neg h]
theorem Nk_r (k : Fin 10) (h : k = 2 ∨ k = 3) : Nk k = Nr := by unfold Nk; rw [if_pos h]
theorem cr0 (c : Dev nD) : (xsl c).view.dmaCredit = Nk 0 := (Nk_b 0 (by decide)).symm ▸ rfl
theorem cr1 : (Memref.whole cc0_scratch1).view.dmaCredit = Nk 1 := (Nk_b 1 (by decide)).symm ▸ rfl
theorem cr2 : rM.view.dmaCredit = Nk 2 := (Nk_r 2 (by decide)).symm ▸ rfl
theorem cr3 : slab.view.dmaCredit = Nk 3 := (Nk_r 3 (by decide)).symm ▸ rfl
theorem cr4 : (Memref.whole cc0_scratch4).view.dmaCredit = Nk 4 := (Nk_b 4 (by decide)).symm ▸ rfl
theorem cr5 : (Memref.whole cc0_scratch5).view.dmaCredit = Nk 5 := (Nk_b 5 (by decide)).symm ▸ rfl
theorem cr6 : (Memref.whole cc0_scratch6).view.dmaCredit = Nk 6 := (Nk_b 6 (by decide)).symm ▸ rfl
theorem cr7 : (Memref.whole cc0_scratch7).view.dmaCredit = Nk 7 := (Nk_b 7 (by decide)).symm ▸ rfl
theorem cr8 : (Memref.whole cc0_scratch4).view.dmaCredit = Nk 8 := (Nk_b 8 (by decide)).symm ▸ rfl
theorem cr9 : (Memref.whole cc0_scratch8).view.dmaCredit = Nk 9 := (Nk_b 9 (by decide)).symm ▸ rfl
theorem Nk_01 : Nk 0 = Nk 1 := (Nk_b 0 (by decide)).trans (Nk_b 1 (by decide)).symm
theorem Nk_23 : Nk 2 = Nk 3 := (Nk_r 2 (by decide)).trans (Nk_r 3 (by decide)).symm
theorem Nk_45 : Nk 4 = Nk 5 := (Nk_b 4 (by decide)).trans (Nk_b 5 (by decide)).symm
theorem Nk_67 : Nk 6 = Nk 7 := (Nk_b 6 (by decide)).trans (Nk_b 7 (by decide)).symm
theorem Nk_89 : Nk 8 = Nk 9 := (Nk_b 8 (by decide)).trans (Nk_b 9 (by decide)).symm

/-! ## Whole buffers as views -/

theorem pts_view (c : Dev nD) (b : Ref sig .tc) (f : b.ty.Contents (Elt F)) :
    ((Memref.whole b).view.loc (c : Thread nD τ) ↦[(Memref.whole b).view.set]{fullShare} f : sProp 𝕄) = pts c b f := by
  have h : (Memref.whole b : Memref sig .tc _ _ _).view.set = Finset.univ := View.set_whole b
  rw [h]; rfl

theorem pts_landed (c : Dev nD) (b : Ref sig .tc) (f w : b.ty.Contents (Elt F)) :
    ((Memref.whole b).view.loc (c : Thread nD τ) ↦[(Memref.whole b).view.set]{fullShare} ((Memref.whole b).view.write (Elt F) f w Finset.univ) : sProp 𝕄)
      = pts c b w := by
  have h : (Memref.whole b : Memref sig .tc _ _ _).view.write (Elt F) f w Finset.univ = w := View.write_whole_univ b f w
  rw [h]; exact pts_view c b w

/-! ## The router buffer -/

theorem slab_set : slab.view.set = rect1.set.map fM.view.emb := by
  show ((fM.view.slice rect1).reshape S1024x8 _).set = _
  rw [View.set_reshape, View.set_slice]

theorem rect01 : Disjoint rect0.set rect1.set := by
  rw [Finset.disjoint_left]
  intro i h0 h1
  have a := (Rect.mem_set_unit.1 h0 0).2
  have b := (Rect.mem_set_unit.1 h1 0).1
  have a' : (i 0).val < 0 + 1 := a
  have b' : 1 ≤ (i 0).val := b
  omega

theorem rect0_sub : fM.view.setOn rect0.set ⊆ Finset.univ \ slab.view.set := by
  intro y hy
  obtain ⟨x, hx, rfl⟩ := Finset.mem_map.mp hy
  rw [Finset.mem_sdiff]
  refine ⟨Finset.mem_univ _, fun h => ?_⟩
  rw [slab_set] at h
  obtain ⟨x', hx', he⟩ := Finset.mem_map.mp h
  have := fM.view.emb.injective he
  subst this
  exact Finset.disjoint_left.1 rect01 hx hx'

theorem rect0_load_sub : fM.view.setOn rect0.toLoadRect.set ⊆ Finset.univ \ slab.view.set := rect0_sub
theorem rect1_load_sub : fM.view.setOn rect1.toLoadRect.set ⊆ slab.view.set := by
  rw [slab_set]; exact Finset.Subset.refl _
theorem rect0_store_sub : (fM.access rect0).setOn Finset.univ ⊆ Finset.univ \ slab.view.set := by
  rw [View.setOn_univ]
  show (fM.view.slice rect0).set ⊆ _
  rw [View.set_slice]; exact rect0_sub

theorem wp_load_half0 {α : Type} {Q : α → sProp 𝕄} (c : Dev nD) (g : fM.view.ty.Contents (Elt F)) {hl : fM.view.LoadsAt rect0.toLoadRect}
    {k : (rect0.toLoadRect.shape.Idx → Elt F .f32) → Prog (TpuEff nD τ sig (Elt F) Λ₀ .tc) α} :
    slab0Pts c g ⊢ iprop((slab0Pts c g -∗ wp frame (wpE (defs₀ (F := F)) 𝒱₀ (c : Thread nD τ) none) Set.univ (k (fM.view.readAt (Elt F) rect0.toLoadRect g)) Q)
        -∗ wp frame (wpE (defs₀ (F := F)) 𝒱₀ (c : Thread nD τ) none) Set.univ (.op (.load fM rect0.toLoadRect hl) k) Q) :=
  wp_load (defs := defs₀ (F := F)) (Q := Q) (k := k) (Ix := Unit) (Name := ℕ) (U := UU) (Lvl := ℕ) (Γ := .empty) 𝒱₀ (c : Thread nD τ) none Set.univ
    (m := fM) (hl := hl) (q := fullShare) (f := g) rect0_load_sub

theorem wp_load_half1 {α : Type} {Q : α → sProp 𝕄} (c : Dev nD) (g : fM.view.ty.Contents (Elt F)) {hl : fM.view.LoadsAt rect1.toLoadRect}
    {k : (rect1.toLoadRect.shape.Idx → Elt F .f32) → Prog (TpuEff nD τ sig (Elt F) Λ₀ .tc) α} :
    slabPts c g ⊢ iprop((slabPts c g -∗ wp frame (wpE (defs₀ (F := F)) 𝒱₀ (c : Thread nD τ) none) Set.univ (k (fM.view.readAt (Elt F) rect1.toLoadRect g)) Q)
        -∗ wp frame (wpE (defs₀ (F := F)) 𝒱₀ (c : Thread nD τ) none) Set.univ (.op (.load fM rect1.toLoadRect hl) k) Q) :=
  wp_load (defs := defs₀ (F := F)) (Q := Q) (k := k) (Ix := Unit) (Name := ℕ) (U := UU) (Lvl := ℕ) (Γ := .empty) 𝒱₀ (c : Thread nD τ) none Set.univ
    (m := fM) (hl := hl) (q := fullShare) (f := g) rect1_load_sub

theorem wp_store_half0 {α : Type} {Q : α → sProp 𝕄} (c : Dev nD) (g : fM.view.ty.Contents (Elt F)) {w : rect0.shape.Idx → Elt F .f32}
    {hx : (fM.access rect0).Stores Finset.univ} {hm : (Finset.univ : Finset rect0.shape.Idx) = Finset.univ ∨ ∀ a, rect0.stride a = 1}
    {k : PUnit → Prog (TpuEff nD τ sig (Elt F) Λ₀ .tc) α} :
    slab0Pts c g ⊢ iprop((slab0Pts c ((fM.access rect0).write (Elt F) g w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store fM rect0 w Finset.univ hx hm) k) Q) :=
  wp_store (defs := defs₀ (F := F)) (Q := Q) (k := k) (Ix := Unit) (Name := ℕ) (U := UU) (Lvl := ℕ) (Γ := .empty) 𝒱₀ (c : Thread nD τ) none Set.univ
    (m := fM) (r := rect0) (w := w) (Mk := Finset.univ) (hx := hx) (hm := hm) (f := g) rect0_store_sub

theorem half0_read (g : fM.view.ty.Contents (Elt F)) (w : rect0.shape.Idx → Elt F .f32) :
    fM.view.readAt (Elt F) rect0.toLoadRect ((fM.access rect0).write (Elt F) g w Finset.univ) = w :=
  View.read_write_univ (v := fM.access rect0) g w

theorem half1_read (g : fM.view.ty.Contents (Elt F)) (r : Vec F S1024x8 .f32) (h : slab.view.read (Elt F) g = r) :
    k0_pay6 (fM.view.readAt (Elt F) rect1.toLoadRect g) = k0_pay6 (k0_pay3 r) := by
  subst h
  unfold k0_pay3 k0_pay6
  dsimp only
  rw [shapeCast_comp, shapeCast_comp, shapeCast_id]
  rfl

theorem router_split (c : Dev nD) : (pts? c cc0_scratch2 : sProp 𝕄) ⊢ iprop(∃ g, slabPts c g ∗ slab0Pts c g) := by
  unfold pts?
  iintro ⟨%f, H⟩
  iexists f
  unfold pts slabPts slab0Pts
  ihave H := (pointsTo_split_subset (Finset.subset_univ slab.view.set)).1 $$ H
  iexact H

theorem router_join (c : Dev nD) (g g' : fM.view.ty.Contents (Elt F)) : iprop(slabPts c g ∗ slab0Pts c g') ⊢ (pts? c cc0_scratch2 : sProp 𝕄) := by
  unfold pts? pts slabPts slab0Pts
  iintro H
  ihave H := (pointsTo_join_subset (Finset.subset_univ slab.view.set)) $$ H
  iexists _; iexact H

/-! ## The staged token block -/

/-- The rows of a device's token block that stay. -/
def xkPts (c : Dev nD) : sProp 𝕄 := xM.view.loc (c : Thread nD τ) ↦[Finset.univ \ (xsl c).view.set]{fullShare} xstg m c

theorem x_split (c : Dev nD) : pts c cc0_stg0_0 (xstg m c) ⊢ iprop(xslPts m c ∗ xkPts m c) := by
  unfold pts xslPts xkPts
  exact (pointsTo_split_subset (Finset.subset_univ (xsl c).view.set)).1
theorem x_join (c : Dev nD) : iprop(xslPts m c ∗ xkPts m c) ⊢ pts c cc0_stg0_0 (xstg m c) := by
  unfold pts xslPts xkPts
  exact (pointsTo_split_subset (Finset.subset_univ (xsl c).view.set)).2

theorem wp_load_own {α : Type} {Q : α → sProp 𝕄} (c : Dev nD) {inb : ∀ a, (k0_off2 c) a + S512x1024.size a ≤ S1024x1024.size a}
    {hl : xM.view.LoadsAt (Rect.unit (s := S1024x1024) (k0_off2 c) S512x1024.size inb).toLoadRect}
    {k : (S512x1024.Idx → Elt F .f32) → Prog (TpuEff nD τ sig (Elt F) Λ₀ .tc) α} :
    pts c cc0_stg0_0 (xstg m c) ⊢ iprop((pts c cc0_stg0_0 (xstg m c) -∗ wp frame (wpE (defs₀ (F := F)) 𝒱₀ (c : Thread nD τ) none) Set.univ (k (xown m c)) Q)
        -∗ wp frame (wpE (defs₀ (F := F)) 𝒱₀ (c : Thread nD τ) none) Set.univ (.op (.load xM (Rect.unit (s := S1024x1024) (k0_off2 c) S512x1024.size inb).toLoadRect hl) k) Q) :=
  wp_load (defs := defs₀ (F := F)) (Q := Q) (k := k) (Ix := Unit) (Name := ℕ) (U := UU) (Lvl := ℕ) (Γ := .empty) 𝒱₀ (c : Thread nD τ) none Set.univ
    (m := xM) (hl := hl) (q := fullShare) (f := xstg m c) (Finset.subset_univ _)

end Cert.Moe

end
-- ==== Proof.BodyFirst.lean ====
/-
The body at the first point: the exchange of tokens and router columns along `y`, the routing weights, and one step.
-/
module

public import proofs.«01_k».proof.Proof.Pieces
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

theorem barPay_y (c : Dev nD) : (barPay (yp c) 0 : sProp 𝕄) = iprop(pts? c cc0_scratch1 ∗ (∃ g, slabPts c g) ∗ pts? c cc0_scratch5) := by
  show iprop(pts? (yp (yp c)) cc0_scratch1 ∗ (∃ g, slabPts (yp (yp c)) g) ∗ pts? (yp (yp c)) cc0_scratch5) = _
  rw [yp_yp]
theorem barPay_x (c : Dev nD) : (barPay (xp c) 1 : sProp 𝕄) = pts? c cc0_scratch7 := by
  show pts? (xp (xp c)) cc0_scratch7 = _
  rw [xp_xp]
theorem barPay_z (c : Dev nD) : (barPay (zp c) 2 : sProp 𝕄) = pts? c cc0_scratch8 := by
  show pts? (zp (zp c)) cc0_scratch8 = _
  rw [zp_zp]

/-- The token rows, sent: back at home, and landed at the neighbour. -/
theorem xsent_home (c : Dev nD) : ((xsl c).view.loc (c : Thread nD τ) ↦[(xsl c).view.set]{fullShare} xstg m c) ⊢ dpay m c 0 := Entails.rfl
theorem xsent_landed (c : Dev nD) (fd : cc0_scratch1.ty.Contents (Elt F)) :
    ((Memref.whole cc0_scratch1).view.loc (yp c : Thread nD τ) ↦[(Memref.whole cc0_scratch1).view.set]{fullShare}
      ((Memref.whole cc0_scratch1).view.write (Elt F) fd ((xsl c).view.read (Elt F) (xstg m c)) Finset.univ)) ⊢ dpay m (yp c) 1 := by
  refine (Entails.of_eq (pts_landed (yp c) cc0_scratch1 fd _)).trans ?_
  show _ ⊢ pts (yp c) cc0_scratch1 (xsent m (yp (yp c)))
  rw [yp_yp]; exact Entails.rfl
/-- The router columns, sent. -/
theorem rsent_home (c : Dev nD) : (rM.view.loc (c : Thread nD τ) ↦[rM.view.set]{fullShare} rstg m c) ⊢ dpay m c 2 :=
  Entails.of_eq (pts_view c cc0_stg1_0 _)
theorem rsent_landed (c : Dev nD) (fd : fM.view.ty.Contents (Elt F)) :
    (slab.view.loc (yp c : Thread nD τ) ↦[slab.view.set]{fullShare} (slab.view.write (Elt F) fd (rM.view.read (Elt F) (rstg m c)) Finset.univ)) ⊢ dpay m (yp c) 3 := by
  show _ ⊢ iprop(∃ g, ⌜slab.view.read (Elt F) g = rstg m (yp (yp c))⌝ ∗ slabPts (yp c) g)
  rw [yp_yp]
  iintro H
  iexists _
  isplitr
  rotate_left
  · unfold slabPts; iexact H
  · ipureintro
    rw [View.read_write_univ]; rfl

/-- The transfer of the token rows. -/
theorem wp_send_x {α : Type} {Q : α → sProp 𝕄} {k : PUnit → Prog (TpuEff nD τ sig (Elt F) Λ₀ .tc) α} (c : Dev nD) (f : cc0_scratch1.ty.Contents (Elt F)) (n : Dev nD) (hn : n = yp c)
    {hsc : (Memref.whole cc0_scratch1).view.ref.isScScratch = false} {hsrc : (xsl c).view.WordExact} {hdst : (Memref.whole cc0_scratch1).view.WordExact} {hsem} :
    iprop(records m K ∗ xslPts m c ∗ pts (yp c) cc0_scratch1 f ∗ ow c (Os c) ∗ dutyTok ER (dcell c 0) 0 0 ∗ dutyTok ER (dcell (yp c) 1) 0 0)
      ⊢ iprop(((cred (tallyAt (dcell c 0) () (Nk 0)) ∗ ow c (Or c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsl c) (.remote (Dev.tc n : Thread nD τ) (Memref.whole cc0_scratch1) (.dma (dsem 0)) hsc) (.dma (dsem 1)) hsrc hdst hsem) k) Q) := by
  rw [← pts_view]
  have H := wp_send_d m K (k := k) (Q := Q) c (yp c) n hn 0 1 (sS := dsem 0) (sR := dsem 1) rfl rfl (src := xsl c) (dst := Memref.whole cc0_scratch1) (hsc := hsc) (hsrc := hsrc) (hdst := hdst) (hsem := hsem) cr1 Nk_01 (xstg m c) f (Or c)
  have H1 := H (xsent_home m c)
  have H2 := H1 (xsent_landed m c f)
  exact H2

/-- The transfer of the router columns. -/
theorem wp_send_r {α : Type} {Q : α → sProp 𝕄} {k : PUnit → Prog (TpuEff nD τ sig (Elt F) Λ₀ .tc) α} (c : Dev nD) (f : fM.view.ty.Contents (Elt F)) (n : Dev nD) (hn : n = yp c)
    {hsc : (slab).view.ref.isScScratch = false} {hsrc : (rM).view.WordExact} {hdst : (slab).view.WordExact} {hsem} :
    iprop(records m K ∗ pts c cc0_stg1_0 (rstg m c) ∗ slabPts (yp c) f ∗ ow c (Or c) ∗ dutyTok ER (dcell c 2) 0 0 ∗ dutyTok ER (dcell (yp c) 3) 0 0)
      ⊢ iprop(((cred (tallyAt (dcell c 2) () (Nk 2)) ∗ ow c (Oy c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rM) (.remote (Dev.tc n : Thread nD τ) (slab) (.dma (dsem 2)) hsc) (.dma (dsem 3)) hsrc hdst hsem) k) Q) := by
  rw [← pts_view c cc0_stg1_0]
  have H := wp_send_d m K (k := k) (Q := Q) c (yp c) n hn 2 3 (sS := dsem 2) (sR := dsem 3) rfl rfl (src := rM) (dst := slab) (hsc := hsc) (hsrc := hsrc) (hdst := hdst) (hsem := hsem) cr3 Nk_23 (rstg m c) f (Oy c)
  have H1 := H (rsent_home m c)
  have H2 := H1 (rsent_landed m c f)
  exact H2

theorem fold_xc (c : Dev nD) : pts c cc0_scratch0 (k0_pay4 (Scalar.remsi (Scalar.divsi (Dev.word c) 4#32) 2#32) (Scalar.remsi (Scalar.divsi (Dev.word c) 2#32) 2#32)
    (xown m c) (xsent m (yp c))) ⊢ pts c cc0_scratch0 (xcV m c) := Entails.rfl
theorem fold_wmat (c : Dev nD) : pts c cc0_scratch3
    (k0_pay10 (k0_pay7 (xcV m c) (k0_pay5 (xcV m c) (k0_pay3 (rstg m c))) (k0_pay6 (k0_pay3 (rstg m (yp c)))))) ⊢ pts c cc0_scratch3 (wmatV m c) := Entails.rfl

set_option maxHeartbeats 1000000 in
theorem body_first (c : Dev nD) (t : Fin cfg0.N) (ht : t.val = 0) (h1 : k0_cond1 (grid0.coords t) = 1#1) (h2 : ¬ k0_cond2 (grid0.coords t) = 1#1)
    (a4 a5 : Memref sig .tc .vmem S1x1024x1024 .f32) (h4 : a4.IsWhole) (h5 : a5.IsWhole) (Q : PUnit → sProp 𝕄) :
    iprop(Φ₀ m c ∗ ow c (O₀ c) ∗ pts c cc0_stg0_0 (xstg m c) ∗ pts c cc0_stg1_0 (rstg m c)
        ∗ owns (c : Thread nD τ) a4 fullShare (w1At m c t) ∗ owns (c : Thread nD τ) a5 fullShare (w2At m c t)
        ∗ ((Φmid m c (t.val + 1) ∗ ow c (Oy c) ∗ pts c cc0_stg0_0 (xstg m c) ∗ pts c cc0_stg1_0 (rstg m c)
            ∗ owns (c : Thread nD τ) a4 fullShare (w1At m c t) ∗ owns (c : Thread nD τ) a5 fullShare (w2At m c t)) -∗ Q ⟨⟩))
      ⊢ wp frame (wpE (defs₀ (F := F)) 𝒱₀ (c : Thread nD τ) none) Set.univ
          (cc0_body (grid0.coords t) xM (Memref.isWhole_whole _) rM (Memref.isWhole_whole _) a4 h4 a5 h5 oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9) Q := by
  rw [cc0_body_eq_skeleton]; unfold cc0_body_skel
  rw [k0_part7_eq_skeleton]; unfold k0_part7_skel
  rw [k0_part1_eq_skeleton, k0_part2_eq_skeleton, k0_part3_eq_skeleton, k0_part4_eq_skeleton]
  unfold k0_part1_skel k0_part2_skel k0_part3_skel k0_part4_skel
  simp only [dif_pos h1, dif_neg h2, semSignalWord, semWaitWord, Prog.lift, Prog.bind_op, Prog.bind_ret, Prog.pure_eq_ret, wp_deviceId,
    sem0, sem1, sem2, sem3, dev1_eq, dev2_eq, dev3_eq]
  unfold Φ₀ start scratches linear early earlyCred
  iintro ⟨⟨⟨⟨%K, #HR, ⟨⟨Pb, P0, P1, P2, P3⟩, ⟨Ty, Tx, Tz⟩, ⟨T0, T1, T2, T3⟩⟩, Hlate⟩, ⟨⟨Cb, C1, C3⟩, Hlc⟩, #Hlev⟩,
    S0, S1, S2, S3, S4, S5, S6, S7, S8⟩, HO, Hx, Hr, H4, H5, Hk⟩
  ihave Hs := (router_split c) $$ S2
  icases Hs with ⟨%g0, Hslab, Hhalf⟩
  -- the three barrier signals
  iapply (wp_sig m K c (yp c) 0 (O₁ c) _ rfl _ (by decide)) $$ [HO Ty S1 Hslab S5]
  · isplitr; · iexact HR
    isplitl [HO]; · iexact HO
    isplitl [Ty]; · iexact Ty
    rw [barPay_y]
    isplitl [S1]; · iexact S1
    isplitl [Hslab]; · iexists g0; iexact Hslab
    iexact S5
  iintro HO
  iapply (wp_sig m K c (xp c) 1 (O₂ c) _ rfl _ (by decide)) $$ [HO Tx S7]
  · isplitr; · iexact HR
    isplitl [HO]; · iexact HO
    isplitl [Tx]; · iexact Tx
    rw [barPay_x]; iexact S7
  iintro HO
  iapply (wp_sig m K c (zp c) 2 (Os c) _ rfl _ (by decide)) $$ [HO Tz S8]
  · isplitr; · iexact HR
    isplitl [HO]; · iexact HO
    isplitl [Tz]; · iexact Tz
    rw [barPay_z]; iexact S8
  iintro HO
  -- the barrier
  iapply (wp_wait_bar m K c _ rfl _ (by decide) (Os c) (above_Os c)) $$ [Cb HO Pb]
  · isplitr; · iexact HR
    isplitr; · iexact Hlev
    isplitl [Cb]; · iexact Cb
    isplitl [HO]; · iexact HO
    iexact Pb
  iintro ⟨HO, ⟨By, Bx, Bz⟩, Zb⟩
  unfold barPay pts?
  icases By with ⟨⟨%f1, By1⟩, ⟨%g1, Byr⟩, By5⟩
  -- the router columns into their half
  iapply (wp_load_pts 1 (hκ := rfl) c hz2 (rstg m c)) $$ Hr; iintro Hr
  iapply (wp_load_half0 c g0) $$ Hhalf; iintro Hhalf
  iapply (wp_store_half0 c g0) $$ Hhalf; iintro Hhalf
  -- the two sends
  ihave Hx := (x_split m c) $$ Hx
  icases Hx with ⟨Hx, Hxk⟩
  iapply (wp_send_x m K c f1 _ (dev4_eq c _)) $$ [Hx By1 HO T0 T1]
  · isplitr; · iexact HR
    isplitl [Hx]; · iexact Hx
    isplitl [By1]; · iexact By1
    isplitl [HO]; · iexact HO
    isplitl [T0]; · iexact T0
    iexact T1
  iintro ⟨C0, HO⟩
  iapply (wp_send_r m K c g1 _ (dev5_eq c _)) $$ [Hr Byr HO T2 T3]
  · isplitr; · iexact HR
    isplitl [Hr]; · iexact Hr
    isplitl [Byr]; · iexact Byr
    isplitl [HO]; · iexact HO
    isplitl [T2]; · iexact T2
    iexact T3
  iintro ⟨C2, HO⟩
  -- the four waits
  iapply (wp_wait_d m K c 0 rfl (dst := xsl c) (cr0 c) (Oy c) 2 (by decide) (above_Oy c)) $$ [C0 HO P0]
  · isplitr; · iexact HR
    isplitr; · iexact Hlev
    isplitl [C0]; · iexact C0
    isplitl [HO]; · iexact HO
    iexact P0
  iintro ⟨HO, D0, Z0⟩
  iapply (wp_wait_d m K c 1 rfl (dst := Memref.whole cc0_scratch1) cr1 (Oy c) 2 (by decide) (above_Oy c)) $$ [C1 HO P1]
  · isplitr; · iexact HR
    isplitr; · iexact Hlev
    isplitl [C1]; · iexact C1
    isplitl [HO]; · iexact HO
    iexact P1
  iintro ⟨HO, D1, Z1⟩
  iapply (wp_wait_d m K c 2 rfl (dst := rM) cr2 (Oy c) 2 (by decide) (above_Oy c)) $$ [C2 HO P2]
  · isplitr; · iexact HR
    isplitr; · iexact Hlev
    isplitl [C2]; · iexact C2
    isplitl [HO]; · iexact HO
    iexact P2
  iintro ⟨HO, D2, Z2⟩
  iapply (wp_wait_d m K c 3 rfl (dst := slab) cr3 (Oy c) 2 (by decide) (above_Oy c)) $$ [C3 HO P3]
  · isplitr; · iexact HR
    isplitr; · iexact Hlev
    isplitl [C3]; · iexact C3
    isplitl [HO]; · iexact HO
    iexact P3
  iintro ⟨HO, D3, Z3⟩
  unfold dpay
  ihave Hx := (x_join m c) $$ [D0 Hxk]
  · isplitl [D0]; · iexact D0
    iexact Hxk
  icases D3 with ⟨%g3, %hg3, Hslab⟩
  -- the token rows and the routing weights
  iapply (wp_load_own m c) $$ Hx; iintro Hx
  iapply (wp_load_pts 8 (hκ := rfl) c hz2 (xsent m (yp c))) $$ D1; iintro D1
  icases S0 with ⟨%f0, S0⟩
  iapply (wp_load_pts 7 (hκ := rfl) c hz2 f0) $$ S0; iintro S0
  iapply (wp_store_pts 7 (hκ := rfl) c hz2 f0) $$ S0; iintro S0
  ihave S0 := (fold_xc m c) $$ S0
  iapply (wp_load_pts 7 (hκ := rfl) c hz2 (xcV m c)) $$ S0; iintro Hx0
  iapply (wp_load_half0 c _) $$ Hhalf; iintro Hhalf
  rw [half0_read]
  iapply (wp_load_half1 c g3) $$ Hslab; iintro Hslab
  rw [half1_read g3 _ hg3]
  icases S3 with ⟨%f3, S3⟩
  iapply (wp_load_pts 10 (hκ := rfl) c hz2 f3) $$ S3; iintro S3
  iapply (wp_store_pts 10 (hκ := rfl) c hz2 f3) $$ S3; iintro Hw
  ihave Hw := (fold_wmat m c) $$ Hw
  icases S4 with ⟨%f4, S4⟩
  iapply (wp_load_pts 11 (hκ := rfl) c hz2 f4) $$ S4; iintro S4
  iapply (wp_store_pts 11 (hκ := rfl) c hz2 f4) $$ S4; iintro Ha
  -- one step
  iapply (wp_load_pts 7 (hκ := rfl) c hz2 (xcV m c)) $$ Hx0; iintro Hx0
  iapply (wp_load_owns c a4 hz3 (w1At m c t)) $$ H4; iintro H4
  iapply (wp_load_owns c a5 hz3 (w2At m c t)) $$ H5; iintro H5
  iapply (wp_load_pts 10 (hκ := rfl) c hz2 (wmatV m c)) $$ Hw; iintro Hw
  iapply (wp_load_pts 11 (hκ := rfl) c hz2 (k0_pay11 (F := F))) $$ Ha; iintro Ha
  iapply (wp_load_pts 11 (hκ := rfl) c hz2 (k0_pay11 (F := F))) $$ Ha; iintro Ha
  iapply (wp_store_pts 11 (hκ := rfl) c hz2 (k0_pay11 (F := F))) $$ Ha; iintro Ha
  rw [wp_ret]; imodintro
  iapply Hk
  unfold Φmid work keep lent zeros₁
  rw [acc_succ, ht]
  ihave Hrt := (router_join c g3 _) $$ [Hslab Hhalf]
  · isplitl [Hslab]; · iexact Hslab
    iexact Hhalf
  unfold pts?
  isplitr [HO Hx D2 H4 H5]
  · isplitl [Hx0 Hw Ha]
    · isplitl [Hx0]; · iexact Hx0
      isplitl [Hw]; · iexact Hw
      iexact Ha
    isplitl [Hlate]
    · iexists K
      isplitr; · iexact HR
      iexact Hlate
    isplitl [Hlc]; · iexact Hlc
    isplitr; · iexact Hlev
    isplitl [By5 Bx Bz]
    · isplitl [By5]; · iexact By5
      isplitl [Bx]; · iexact Bx
      iexact Bz
    isplitl [Zb Z0 Z1 Z2 Z3]
    · isplitl [Zb]; · iexact Zb
      isplitl [Z0]; · iexact Z0
      isplitl [Z1]; · iexact Z1
      isplitl [Z2]; · iexact Z2
      iexact Z3
    isplitl [D1]; · iexists _; iexact D1
    isplitl [Hrt]; · iexact Hrt
    iexact S6
  isplitl [HO]; · iexact HO
  isplitl [Hx]; · iexact Hx
  isplitl [D2]; · iexact D2
  isplitl [H4]; · iexact H4
  iexact H5

end Cert.Moe

end
-- ==== Proof.BodyLast.lean ====
/-
The body at the last point: one step, then the three exchanges that sum, hand over and gather the token rows.
-/
module

public import proofs.«01_k».proof.Proof.Pieces
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

theorem contrib_home (c : Dev nD) : ((Memref.whole cc0_scratch4).view.loc (c : Thread nD τ) ↦[(Memref.whole cc0_scratch4).view.set]{fullShare} contribV m c) ⊢ dpay m c 4 :=
  Entails.of_eq (pts_view c cc0_scratch4 _)
theorem contrib_landed (c : Dev nD) (fd : cc0_scratch5.ty.Contents (Elt F)) :
    ((Memref.whole cc0_scratch5).view.loc (yp c : Thread nD τ) ↦[(Memref.whole cc0_scratch5).view.set]{fullShare}
      ((Memref.whole cc0_scratch5).view.write (Elt F) fd ((Memref.whole cc0_scratch4).view.read (Elt F) (contribV m c)) Finset.univ)) ⊢ dpay m (yp c) 5 := by
  refine (Entails.of_eq (pts_landed (yp c) cc0_scratch5 fd _)).trans ?_
  show _ ⊢ pts (yp c) cc0_scratch5 (contribV m (yp (yp c)))
  rw [yp_yp]; exact Entails.rfl
/-- The transfer of the summed expert outputs along `y`. -/
theorem wp_send_contrib {α : Type} {Q : α → sProp 𝕄} {k : PUnit → Prog (TpuEff nD τ sig (Elt F) Λ₀ .tc) α} (c : Dev nD) (f : cc0_scratch5.ty.Contents (Elt F)) (n : Dev nD) (hn : n = yp c)
    {hsc : (Memref.whole cc0_scratch5).view.ref.isScScratch = false} {hsrc : (Memref.whole cc0_scratch4).view.WordExact} {hdst : (Memref.whole cc0_scratch5).view.WordExact} {hsem} :
    iprop(records m K ∗ pts c cc0_scratch4 (contribV m c) ∗ pts (yp c) cc0_scratch5 f ∗ ow c (Oy c) ∗ dutyTok ER (dcell c 4) 0 0 ∗ dutyTok ER (dcell (yp c) 5) 0 0)
      ⊢ iprop(((cred (tallyAt (dcell c 4) () (Nk 4)) ∗ ow c (Ox c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch4) (.remote (Dev.tc n : Thread nD τ) (Memref.whole cc0_scratch5) (.dma (dsem 4)) hsc) (.dma (dsem 5)) hsrc hdst hsem) k) Q) := by
  rw [← pts_view c cc0_scratch4, ← pts_view (yp c) cc0_scratch5]
  have H := wp_send_d m K (k := k) (Q := Q) c (yp c) n hn 4 5 (sS := dsem 4) (sR := dsem 5) rfl rfl (src := Memref.whole cc0_scratch4) (dst := Memref.whole cc0_scratch5) (hsc := hsc) (hsrc := hsrc) (hdst := hdst) (hsem := hsem) cr5 Nk_45 (contribV m c) f (Ox c)
  have H1 := H (contrib_home m c)
  have H2 := H1 (contrib_landed m c f)

  exact H2

theorem csum_home (c : Dev nD) : ((Memref.whole cc0_scratch6).view.loc (c : Thread nD τ) ↦[(Memref.whole cc0_scratch6).view.set]{fullShare} csumV m c) ⊢ dpay m c 6 :=
  Entails.of_eq (pts_view c cc0_scratch6 _)
theorem csum_landed (c : Dev nD) (fd : cc0_scratch7.ty.Contents (Elt F)) :
    ((Memref.whole cc0_scratch7).view.loc (xp c : Thread nD τ) ↦[(Memref.whole cc0_scratch7).view.set]{fullShare}
      ((Memref.whole cc0_scratch7).view.write (Elt F) fd ((Memref.whole cc0_scratch6).view.read (Elt F) (csumV m c)) Finset.univ)) ⊢ dpay m (xp c) 7 := by
  refine (Entails.of_eq (pts_landed (xp c) cc0_scratch7 fd _)).trans ?_
  show _ ⊢ pts (xp c) cc0_scratch7 (csumV m (xp (xp c)))
  rw [xp_xp]; exact Entails.rfl
/-- The transfer along `x`. -/
theorem wp_send_csum {α : Type} {Q : α → sProp 𝕄} {k : PUnit → Prog (TpuEff nD τ sig (Elt F) Λ₀ .tc) α} (c : Dev nD) (f : cc0_scratch7.ty.Contents (Elt F)) (n : Dev nD) (hn : n = xp c)
    {hsc : (Memref.whole cc0_scratch7).view.ref.isScScratch = false} {hsrc : (Memref.whole cc0_scratch6).view.WordExact} {hdst : (Memref.whole cc0_scratch7).view.WordExact} {hsem} :
    iprop(records m K ∗ pts c cc0_scratch6 (csumV m c) ∗ pts (xp c) cc0_scratch7 f ∗ ow c (Ox c) ∗ dutyTok ER (dcell c 6) 0 0 ∗ dutyTok ER (dcell (xp c) 7) 0 0)
      ⊢ iprop(((cred (tallyAt (dcell c 6) () (Nk 6)) ∗ ow c (Oz c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch6) (.remote (Dev.tc n : Thread nD τ) (Memref.whole cc0_scratch7) (.dma (dsem 6)) hsc) (.dma (dsem 7)) hsrc hdst hsem) k) Q) := by
  rw [← pts_view c cc0_scratch6, ← pts_view (xp c) cc0_scratch7]
  have H := wp_send_d m K (k := k) (Q := Q) c (xp c) n hn 6 7 (sS := dsem 6) (sR := dsem 7) rfl rfl (src := Memref.whole cc0_scratch6) (dst := Memref.whole cc0_scratch7) (hsc := hsc) (hsrc := hsrc) (hdst := hdst) (hsem := hsem) cr7 Nk_67 (csumV m c) f (Oz c)
  have H1 := H (csum_home m c)
  have H2 := H1 (csum_landed m c f)

  exact H2

theorem keep_home (c : Dev nD) : ((Memref.whole cc0_scratch4).view.loc (c : Thread nD τ) ↦[(Memref.whole cc0_scratch4).view.set]{fullShare} keepV m c) ⊢ dpay m c 8 :=
  Entails.of_eq (pts_view c cc0_scratch4 _)
theorem keep_landed (c : Dev nD) (fd : cc0_scratch8.ty.Contents (Elt F)) :
    ((Memref.whole cc0_scratch8).view.loc (zp c : Thread nD τ) ↦[(Memref.whole cc0_scratch8).view.set]{fullShare}
      ((Memref.whole cc0_scratch8).view.write (Elt F) fd ((Memref.whole cc0_scratch4).view.read (Elt F) (keepV m c)) Finset.univ)) ⊢ dpay m (zp c) 9 := by
  refine (Entails.of_eq (pts_landed (zp c) cc0_scratch8 fd _)).trans ?_
  show _ ⊢ pts (zp c) cc0_scratch8 (keepV m (zp (zp c)))
  rw [zp_zp]; exact Entails.rfl
/-- The transfer along `z`. -/
theorem wp_send_keep {α : Type} {Q : α → sProp 𝕄} {k : PUnit → Prog (TpuEff nD τ sig (Elt F) Λ₀ .tc) α} (c : Dev nD) (f : cc0_scratch8.ty.Contents (Elt F)) (n : Dev nD) (hn : n = zp c)
    {hsc : (Memref.whole cc0_scratch8).view.ref.isScScratch = false} {hsrc : (Memref.whole cc0_scratch4).view.WordExact} {hdst : (Memref.whole cc0_scratch8).view.WordExact} {hsem} :
    iprop(records m K ∗ pts c cc0_scratch4 (keepV m c) ∗ pts (zp c) cc0_scratch8 f ∗ ow c (Oz c) ∗ dutyTok ER (dcell c 8) 0 0 ∗ dutyTok ER (dcell (zp c) 9) 0 0)
      ⊢ iprop(((cred (tallyAt (dcell c 8) () (Nk 8)) ∗ ow c 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch4) (.remote (Dev.tc n : Thread nD τ) (Memref.whole cc0_scratch8) (.dma (dsem 8)) hsc) (.dma (dsem 9)) hsrc hdst hsem) k) Q) := by
  rw [← pts_view c cc0_scratch4, ← pts_view (zp c) cc0_scratch8]
  have H := wp_send_d m K (k := k) (Q := Q) c (zp c) n hn 8 9 (sS := dsem 8) (sR := dsem 9) rfl rfl (src := Memref.whole cc0_scratch4) (dst := Memref.whole cc0_scratch8) (hsc := hsc) (hsrc := hsrc) (hdst := hdst) (hsem := hsem) cr9 Nk_89 (keepV m c) f 0
  have H1 := H (keep_home m c)
  have H2 := H1 (keep_landed m c f)
  rw [zero_add] at H2
  exact H2

theorem fold_csum (c : Dev nD) : pts c cc0_scratch6 (k0_pay8 (contribV m c) (contribV m (yp c))) ⊢ pts c cc0_scratch6 (csumV m c) := Entails.rfl
theorem fold_keep (c : Dev nD) : pts c cc0_scratch4 (k0_pay9 (Scalar.remsi (Scalar.divsi (Dev.word c) 4#32) 2#32) (Scalar.remsi (Scalar.divsi (Dev.word c) 2#32) 2#32)
    (csumV m c) (csumV m (xp c))) ⊢ pts c cc0_scratch4 (keepV m c) := Entails.rfl
theorem fold_out (c : Dev nD) : pts c cc0_stg4_0 (k0_pay2 (Scalar.remsi (Scalar.divsi (Dev.word c) 1#32) 2#32) (keepV m c) (keepV m (zp c)) (keepV m (zp c)) (keepV m c))
    ⊢ pts c cc0_stg4_0 (outV m c) := Entails.rfl
theorem fold_contrib (c : Dev nD) (t : Fin cfg0.N) (ht : t.val = 31) : pts c cc0_scratch4
    (k0_pay1 (k0_pay12 (xcV m c) (w1At m c t) (w2At m c t)) (k0_pay13 (grid0.coords t)) (wmatV m c) (FloatOps.ofBits FTy.f32 0#32) (acc m c t.val))
    ⊢ pts c cc0_scratch4 (contribV m c) := by
  have h : acc m c (t.val + 1) = accStep m c t (acc m c t.val) := acc_succ m c t
  have h' : contribV m c = accStep m c t (acc m c t.val) := by rw [← h, ht]; rfl
  rw [h']; exact Entails.rfl

set_option maxHeartbeats 1000000 in
theorem body_last (c : Dev nD) (t : Fin cfg0.N) (ht : t.val = 31) (h1 : ¬ k0_cond1 (grid0.coords t) = 1#1) (h2 : k0_cond2 (grid0.coords t) = 1#1)
    (a4 a5 : Memref sig .tc .vmem S1x1024x1024 .f32) (h4 : a4.IsWhole) (h5 : a5.IsWhole) (Q : PUnit → sProp 𝕄) :
    iprop(Φmid m c t.val ∗ ow c (Oy c) ∗ pts? c cc0_stg4_0
        ∗ owns (c : Thread nD τ) a4 fullShare (w1At m c t) ∗ owns (c : Thread nD τ) a5 fullShare (w2At m c t)
        ∗ ((Φend c ∗ ow c 0 ∗ pts c cc0_stg4_0 (outV m c)
            ∗ owns (c : Thread nD τ) a4 fullShare (w1At m c t) ∗ owns (c : Thread nD τ) a5 fullShare (w2At m c t)) -∗ Q ⟨⟩))
      ⊢ wp frame (wpE (defs₀ (F := F)) 𝒱₀ (c : Thread nD τ) none) Set.univ
          (cc0_body (grid0.coords t) xM (Memref.isWhole_whole _) rM (Memref.isWhole_whole _) a4 h4 a5 h5 oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9) Q := by
  rw [cc0_body_eq_skeleton]; unfold cc0_body_skel
  rw [k0_part7_eq_skeleton, k0_part5_eq_skeleton, k0_part6_eq_skeleton]
  unfold k0_part7_skel k0_part5_skel k0_part6_skel
  simp only [dif_neg h1, dif_pos h2, Prog.lift, Prog.bind_op, Prog.bind_ret, Prog.pure_eq_ret, wp_deviceId,
    sem4, sem5, sem6, sem7, sem8, sem9]
  unfold Φmid work keep late lateCred lent pts?
  iintro ⟨⟨⟨Hx, Hw, Ha⟩, ⟨%K, #HR, ⟨P4, P5, P6, P7, P8, P9⟩, ⟨T4, T5, T6, T7, T8, T9⟩⟩, ⟨C5, C7, C9⟩, #Hlev,
    ⟨⟨%b5, B5⟩, ⟨%b7, B7⟩, ⟨%b8, B8⟩⟩, Hz, S1, S2, ⟨%f6, S6⟩⟩, HO, ⟨%fo, Ho⟩, H4, H5, Hk⟩
  -- one step
  iapply (wp_load_pts 7 (hκ := rfl) c hz2 (xcV m c)) $$ Hx; iintro Hx
  iapply (wp_load_owns c a4 hz3 (w1At m c t)) $$ H4; iintro H4
  iapply (wp_load_owns c a5 hz3 (w2At m c t)) $$ H5; iintro H5
  iapply (wp_load_pts 10 (hκ := rfl) c hz2 (wmatV m c)) $$ Hw; iintro Hw
  iapply (wp_load_pts 11 (hκ := rfl) c hz2 (acc m c t.val)) $$ Ha; iintro Ha
  iapply (wp_load_pts 11 (hκ := rfl) c hz2 (acc m c t.val)) $$ Ha; iintro Ha
  iapply (wp_store_pts 11 (hκ := rfl) c hz2 (acc m c t.val)) $$ Ha; iintro Ha
  ihave Ha := (fold_contrib m c t ht) $$ Ha
  -- the sum along `y`
  iapply (wp_send_contrib m K c b5 _ (dev6_eq c _)) $$ [Ha B5 HO T4 T5]
  · isplitr; · iexact HR
    isplitl [Ha]; · iexact Ha
    isplitl [B5]; · iexact B5
    isplitl [HO]; · iexact HO
    isplitl [T4]; · iexact T4
    iexact T5
  iintro ⟨C4, HO⟩
  iapply (wp_wait_d m K c 4 rfl (dst := Memref.whole cc0_scratch4) cr4 (Ox c) 3 (by decide) (above_Ox c)) $$ [C4 HO P4]
  · isplitr; · iexact HR
    isplitr; · iexact Hlev
    isplitl [C4]; · iexact C4
    isplitl [HO]; · iexact HO
    iexact P4
  iintro ⟨HO, D4, Z4⟩
  iapply (wp_wait_d m K c 5 rfl (dst := Memref.whole cc0_scratch5) cr5 (Ox c) 3 (by decide) (above_Ox c)) $$ [C5 HO P5]
  · isplitr; · iexact HR
    isplitr; · iexact Hlev
    isplitl [C5]; · iexact C5
    isplitl [HO]; · iexact HO
    iexact P5
  iintro ⟨HO, D5, Z5⟩
  unfold dpay
  iapply (wp_load_pts 11 (hκ := rfl) c hz2 (contribV m c)) $$ D4; iintro D4
  iapply (wp_load_pts 12 (hκ := rfl) c hz2 (contribV m (yp c))) $$ D5; iintro D5
  iapply (wp_load_pts 13 (hκ := rfl) c hz2 (f6)) $$ S6; iintro S6
  iapply (wp_store_pts 13 (hκ := rfl) c hz2 (f6)) $$ S6; iintro S6
  ihave S6 := (fold_csum m c) $$ S6
  -- the handover along `x`
  iapply (wp_send_csum m K c b7 _ (dev7_eq c _)) $$ [S6 B7 HO T6 T7]
  · isplitr; · iexact HR
    isplitl [S6]; · iexact S6
    isplitl [B7]; · iexact B7
    isplitl [HO]; · iexact HO
    isplitl [T6]; · iexact T6
    iexact T7
  iintro ⟨C6, HO⟩
  iapply (wp_wait_d m K c 6 rfl (dst := Memref.whole cc0_scratch6) cr6 (Oz c) 4 (by decide) (above_Oz c)) $$ [C6 HO P6]
  · isplitr; · iexact HR
    isplitr; · iexact Hlev
    isplitl [C6]; · iexact C6
    isplitl [HO]; · iexact HO
    iexact P6
  iintro ⟨HO, D6, Z6⟩
  iapply (wp_wait_d m K c 7 rfl (dst := Memref.whole cc0_scratch7) cr7 (Oz c) 4 (by decide) (above_Oz c)) $$ [C7 HO P7]
  · isplitr; · iexact HR
    isplitr; · iexact Hlev
    isplitl [C7]; · iexact C7
    isplitl [HO]; · iexact HO
    iexact P7
  iintro ⟨HO, D7, Z7⟩
  unfold dpay
  iapply (wp_load_pts 13 (hκ := rfl) c hz2 (csumV m c)) $$ D6; iintro D6
  iapply (wp_load_pts 14 (hκ := rfl) c hz2 (csumV m (xp c))) $$ D7; iintro D7
  iapply (wp_load_pts 11 (hκ := rfl) c hz2 (contribV m c)) $$ D4; iintro D4
  iapply (wp_store_pts 11 (hκ := rfl) c hz2 (contribV m c)) $$ D4; iintro D4
  ihave D4 := (fold_keep m c) $$ D4
  -- the gathering along `z`
  iapply (wp_send_keep m K c b8 _ (dev8_eq c _)) $$ [D4 B8 HO T8 T9]
  · isplitr; · iexact HR
    isplitl [D4]; · iexact D4
    isplitl [B8]; · iexact B8
    isplitl [HO]; · iexact HO
    isplitl [T8]; · iexact T8
    iexact T9
  iintro ⟨C8, HO⟩
  iapply (wp_wait_d m K c 8 rfl (dst := Memref.whole cc0_scratch4) cr8 0 5 (by decide) (above_zero 5)) $$ [C8 HO P8]
  · isplitr; · iexact HR
    isplitr; · iexact Hlev
    isplitl [C8]; · iexact C8
    isplitl [HO]; · iexact HO
    iexact P8
  iintro ⟨HO, D8, Z8⟩
  iapply (wp_wait_d m K c 9 rfl (dst := Memref.whole cc0_scratch8) cr9 0 5 (by decide) (above_zero 5)) $$ [C9 HO P9]
  · isplitr; · iexact HR
    isplitr; · iexact Hlev
    isplitl [C9]; · iexact C9
    isplitl [HO]; · iexact HO
    iexact P9
  iintro ⟨HO, D9, Z9⟩
  unfold dpay
  iapply (wp_load_pts 11 (hκ := rfl) c hz2 (keepV m c)) $$ D8; iintro D8
  iapply (wp_load_pts 15 (hκ := rfl) c hz2 (keepV m (zp c))) $$ D9; iintro D9
  iapply (wp_load_pts 15 (hκ := rfl) c hz2 (keepV m (zp c))) $$ D9; iintro D9
  iapply (wp_load_pts 11 (hκ := rfl) c hz2 (keepV m c)) $$ D8; iintro D8
  iapply (wp_load_pts 6 (hκ := rfl) c hz2 (fo)) $$ Ho; iintro Ho
  iapply (wp_store_pts 6 (hκ := rfl) c hz2 (fo)) $$ Ho; iintro Ho
  ihave Ho := (fold_out m c) $$ Ho
  rw [wp_ret]; imodintro
  iapply Hk
  unfold Φend scratches zeros₂ pts?
  isplitr [HO Ho H4 H5]
  · isplitr [Hz Z4 Z5 Z6 Z7 Z8 Z9]
    · isplitl [Hx]; · iexists _; iexact Hx
      isplitl [S1]; · iexact S1
      isplitl [S2]; · iexact S2
      isplitl [Hw]; · iexists _; iexact Hw
      isplitl [D8]; · iexists _; iexact D8
      isplitl [D5]; · iexists _; iexact D5
      isplitl [D6]; · iexists _; iexact D6
      isplitl [D7]; · iexists _; iexact D7
      iexists _; iexact D9
    isplitl [Hz]; · iexact Hz
    isplitl [Z4]; · iexact Z4
    isplitl [Z5]; · iexact Z5
    isplitl [Z6]; · iexact Z6
    isplitl [Z7]; · iexact Z7
    isplitl [Z8]; · iexact Z8
    iexact Z9
  isplitl [HO]; · iexact HO
  isplitl [Ho]; · iexact Ho
  isplitl [H4]; · iexact H4
  iexact H5

end Cert.Moe

end
-- ==== Proof.Obligation.lean ====
/-
The body obligation: every point of the grid is the first, a middle one or the last.
-/
module

public import proofs.«01_k».proof.Proof.BodyFirst
public import proofs.«01_k».proof.Proof.BodyLast
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem iblk_0 (c : Dev nD) (t : Fin cfg0.N) : iblk m c 0 t = xstg m c := rfl
theorem iblk_1 (c : Dev nD) (t : Fin cfg0.N) : iblk m c 1 t = rstg m c := rfl

theorem Φ_zero (c : Dev nD) (t : Fin cfg0.N) (ht : t.val = 0) : (dats m 0 c).Φ t.castSucc = Φ₀ m c := if_pos ht
theorem Φ_pos (c : Dev nD) (t : Fin cfg0.N) (ht : t.val ≠ 0) : (dats m 0 c).Φ t.castSucc = Φmid m c t.val :=
  (if_neg ht).trans (if_neg (by have h : t.val < 32 := cfg0_N ▸ t.isLt; show ¬ t.val = 32; omega))
theorem Φ_succ (c : Dev nD) (t : Fin cfg0.N) (ht : t.val ≠ 31) : (dats m 0 c).Φ t.succ = Φmid m c (t.val + 1) := by
  show (if t.val + 1 = 0 then Φ₀ m c else if t.val + 1 = 32 then Φend c else Φmid m c (t.val + 1)) = Φmid m c (t.val + 1)
  rw [if_neg (by omega), if_neg (by omega)]
theorem Φ_last (c : Dev nD) (t : Fin cfg0.N) (ht : t.val = 31) : (dats m 0 c).Φ t.succ = Φend c := by
  show (if t.val + 1 = 0 then Φ₀ m c else if t.val + 1 = 32 then Φend c else Φmid m c (t.val + 1)) = Φend c
  rw [if_neg (by omega), if_pos (by omega)]
theorem owed_zero (c : Dev nD) (t : Fin cfg0.N) (ht : t.val = 0) : (dats m 0 c).owed t.castSucc = O₀ c := if_pos ht
theorem owed_pos (c : Dev nD) (t : Fin cfg0.N) (ht : t.val ≠ 0) : (dats m 0 c).owed t.castSucc = Oy c :=
  (if_neg ht).trans (if_neg (by have h : t.val < 32 := cfg0_N ▸ t.isLt; show ¬ t.val = 32; omega))
theorem owed_succ (c : Dev nD) (t : Fin cfg0.N) (ht : t.val ≠ 31) : (dats m 0 c).owed t.succ = Oy c := by
  show (if t.val + 1 = 0 then O₀ c else if t.val + 1 = 32 then 0 else Oy c) = Oy c
  rw [if_neg (by omega), if_neg (by omega)]
theorem owed_end (c : Dev nD) (t : Fin cfg0.N) (ht : t.val = 31) : (dats m 0 c).owed t.succ = 0 := by
  show (if t.val + 1 = 0 then O₀ c else if t.val + 1 = 32 then 0 else Oy c) = 0
  rw [if_neg (by omega), if_pos (by omega)]

theorem owesAt_ow (c : Dev nD) (t : Fin (cfg0.N + 1)) : (dats m 0 c).owesAt () t ⊢ ow c ((dats m 0 c).owed t) := by
  unfold Dat.owesAt Pipeline.owesWithin ow
  iintro ⟨%W, -, H⟩
  iexists W; iexact H
theorem ow_owesAt (c : Dev nD) (t : Fin (cfg0.N + 1)) : ow c ((dats m 0 c).owed t) ⊢ (dats m 0 c).owesAt () t := by
  unfold Dat.owesAt Pipeline.owesWithin ow
  iintro ⟨%W, H⟩
  iexists W
  isplitr; · ipureintro; exact fun _ _ => Or.inl trivial
  iexact H

theorem owns_pts (c : Dev nD) (b : Ref sig .tc) (X : b.ty.Contents (Elt F)) :
    (owns (c : Thread nD τ) (Memref.whole b) fullShare X : sProp 𝕄) ⊢ pts c b X := by
  rw [owns_whole_eq]; unfold pts
  iintro ⟨%f, %h, H⟩; subst h; iexact H
theorem pts_owns (c : Dev nD) (b : Ref sig .tc) (X : b.ty.Contents (Elt F)) :
    pts c b X ⊢ (owns (c : Thread nD τ) (Memref.whole b) fullShare X : sProp 𝕄) := by
  rw [owns_whole_eq]; unfold pts
  iintro H; iexists X; isplitr; · ipureintro; rfl
  iexact H

/-- What a point leaves in the result's staging block: nothing it claims before the last point. -/
def outLeft (c : Dev nD) (t : Fin cfg0.N) : sProp 𝕄 := if t.val = 31 then pts c cc0_stg4_0 (outV m c) else pts? c cc0_stg4_0

/-- A point's body, from and to what it finds and leaves. -/
theorem body_at (c : Dev nD) (t : Fin cfg0.N)
    (a2 : Memref sig .tc .vmem S1024x1024 .f32) (a3 : Memref sig .tc .vmem S1024x8 .f32)
    (h2 : a2.IsWhole) (h3 : a3.IsWhole)
    (a4 a5 : Memref sig .tc .vmem S1x1024x1024 .f32) (h4 : a4.IsWhole) (h5 : a5.IsWhole)
    (a6 : Memref sig .tc .vmem S1024x1024 .f32) (h6 : a6.IsWhole) (e2 : a2 = xM) (e3 : a3 = rM) (e6 : a6 = oM) :
    iprop((dats m 0 c).Φ t.castSucc ∗ (dats m 0 c).owesAt () t.castSucc ∗ pts c cc0_stg0_0 (xstg m c) ∗ pts c cc0_stg1_0 (rstg m c)
        ∗ owns (c : Thread nD τ) a4 fullShare (w1At m c t) ∗ owns (c : Thread nD τ) a5 fullShare (w2At m c t) ∗ pts? c cc0_stg4_0)
      ⊢ wp frame (wpE (defs₀ (F := F)) 𝒱₀ (c : Thread nD τ) none) Set.univ
          (cc0_body (grid0.coords t) a2 h2 a3 h3 a4 h4 a5 h5 a6 h6
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9) (fun _ => iprop((dats m 0 c).Φ t.succ ∗ (dats m 0 c).owesAt () t.succ ∗ pts c cc0_stg0_0 (xstg m c) ∗ pts c cc0_stg1_0 (rstg m c)
        ∗ owns (c : Thread nD τ) a4 fullShare (w1At m c t) ∗ owns (c : Thread nD τ) a5 fullShare (w2At m c t) ∗ outLeft m c t)) := by
  subst e2 e3 e6
  have hO1 := owesAt_ow m c t.castSucc
  have hO2 := ow_owesAt m c t.succ
  unfold outLeft
  by_cases h0 : t.val = 0
  · have hn : t.val ≠ 31 := by omega
    rw [Φ_zero m c t h0, Φ_succ m c t hn, if_neg hn]
    rw [owed_zero m c t h0] at hO1; rw [owed_succ m c t hn] at hO2
    iintro ⟨HP, HO, Hx, Hr, H4, H5, Ho⟩
    iapply (body_first m c t h0 ((cond1_iff t).2 h0) (fun h => hn ((cond2_iff t).1 h)) a4 a5 h4 h5)
    isplitl [HP]; · iexact HP
    isplitl [HO]; · iapply hO1; iexact HO
    isplitl [Hx]; · iexact Hx
    isplitl [Hr]; · iexact Hr
    isplitl [H4]; · iexact H4
    isplitl [H5]; · iexact H5
    iintro ⟨HP, HO, Hx, Hr, H4, H5⟩
    isplitl [HP]; · iexact HP
    isplitl [HO]; · iapply hO2; iexact HO
    isplitl [Hx]; · iexact Hx
    isplitl [Hr]; · iexact Hr
    isplitl [H4]; · iexact H4
    isplitl [H5]; · iexact H5
    iexact Ho
  · by_cases hl : t.val = 31
    · rw [Φ_pos m c t h0, Φ_last m c t hl, if_pos hl]
      rw [owed_pos m c t h0] at hO1; rw [owed_end m c t hl] at hO2
      iintro ⟨HP, HO, Hx, Hr, H4, H5, Ho⟩
      iapply (body_last m c t hl (fun h => h0 ((cond1_iff t).1 h)) ((cond2_iff t).2 hl) a4 a5 h4 h5)
      isplitl [HP]; · iexact HP
      isplitl [HO]; · iapply hO1; iexact HO
      isplitl [Ho]; · iexact Ho
      isplitl [H4]; · iexact H4
      isplitl [H5]; · iexact H5
      iintro ⟨HP, HO, Ho, H4, H5⟩
      isplitl [HP]; · iexact HP
      isplitl [HO]; · iapply hO2; iexact HO
      isplitl [Hx]; · iexact Hx
      isplitl [Hr]; · iexact Hr
      isplitl [H4]; · iexact H4
      isplitl [H5]; · iexact H5
      iexact Ho
    · rw [Φ_pos m c t h0, Φ_succ m c t hl, if_neg hl]
      rw [owed_pos m c t h0] at hO1; rw [owed_succ m c t hl] at hO2
      unfold Φmid
      iintro ⟨⟨HP, HK⟩, HO, Hx, Hr, H4, H5, Ho⟩
      iapply (body_mid m c t (fun h => h0 ((cond1_iff t).1 h)) (fun h => hl ((cond2_iff t).1 h)) a4 a5 h4 h5)
      isplitl [HP]; · iexact HP
      isplitl [H4]; · iexact H4
      isplitl [H5]; · iexact H5
      iintro ⟨HP, H4, H5⟩
      isplitl [HP HK]
      · isplitl [HP]; · iexact HP
        iexact HK
      isplitl [HO]; · iapply hO2; iapply hO1; iexact HO
      isplitl [Hx]; · iexact Hx
      isplitl [Hr]; · iexact Hr
      isplitl [H4]; · iexact H4
      isplitl [H5]; · iexact H5
      iexact Ho

theorem idle_4 : ∀ t : Fin cfg0.N, cfg0.idle 4 (grid0.coords t) = true ↔ t.val ≠ 31 := by decide +kernel

/-- Until the last point nothing fills the result's staging block. -/
theorem before_4 (c : Dev nD) (d) : ∀ (n : ℕ) (h : n < cfg0.N), (dats m 0 c).before 4 ⟨n, h⟩ d = d
  | 0, h => by unfold Dat.before; rw [if_neg (show ¬ (cfg0.win 4).fetch _ = true from fun hf => by cases hf), if_pos rfl]
  | n + 1, h => by
    have hN : n + 1 < 32 := cfg0_N ▸ h
    unfold Dat.before; rw [if_neg (show ¬ (cfg0.win 4).fetch _ = true from fun hf => by cases hf), if_neg (Nat.succ_ne_zero n)]
    have hf : ¬ (cfg0.win 4).flush ⟨n, Nat.lt_of_succ_lt h⟩ = true := fun hh => by
      have := (flush0_4 ⟨n, Nat.lt_of_succ_lt h⟩).1 hh; dsimp only at this; omega
    have hi : idle0 4 (grid0.coords ⟨n, Nat.lt_of_succ_lt h⟩) = true := (idle_4 ⟨n, Nat.lt_of_succ_lt h⟩).2 (by dsimp only; omega)
    simp only [Nat.add_sub_cancel]
    rw [if_neg hf, hi]
    exact ((dats m 0 c).found_eq_before 4 _ d).trans (before_4 c d n _)

/-- The result's staging block as the last conjunct of a point's end. -/
theorem outLeft_intro (c : Dev nD) (t : Fin cfg0.N) :
    outLeft m c t ⊢ (match idle0 4 (grid0.coords t) with
      | true => match (win0 4).flush t with
        | false => iprop(∃ d, owns (c : Thread nD τ) (stage0_4 0) fullShare ((dats m 0 c).before 4 t d))
        | true => owns (c : Thread nD τ) (stage0_4 0) fullShare ((dats m 0 c).after 4 t)
      | false => owns (c : Thread nD τ) (stage0_4 0) fullShare ((dats m 0 c).after 4 t) : sProp 𝕄) := by
  unfold outLeft
  have hN : t.val < 32 := cfg0_N ▸ t.isLt
  by_cases h : t.val = 31
  · have hi : idle0 4 (grid0.coords t) = false := by
      rw [← Bool.not_eq_true]; exact fun hh => (idle_4 t).1 hh h
    rw [if_pos h, hi]
    exact pts_owns c cc0_stg4_0 (outV m c)
  · have hi : idle0 4 (grid0.coords t) = true := (idle_4 t).2 h
    have hf : (win0 4).flush t = false := by
      rw [← Bool.not_eq_true]; exact fun hh => h (by have := (flush0_4 t).1 hh; omega)
    rw [if_neg h, hi, hf]
    unfold pts?
    refine exists_elim fun d => (pts_owns c cc0_stg4_0 d).trans ?_
    iintro H
    iexists d
    rw [show (dats m 0 c).before 4 t d = d from before_4 m c d t.val t.isLt]
    iexact H

theorem body_obligation (c : Dev nD) : BodyObligation (dats (F := F) m 0 c) (defs₀ (F := F)) 𝒱₀ () Set.univ := fun t => by
  rw [bigSep_W0, bigSep_W0]
  dsimp only
  simp only [before_0, before_1, before_2, before_3]
  show _ ⊢ wp frame (wpE (defs₀ (F := F)) 𝒱₀ (c : Thread nD τ) none) Set.univ (bodyAt0 t) _
  unfold bodyAt0
  have e0 : cfg0.slots t 0 = 0 := Subsingleton.elim _ _
  have e1 : cfg0.slots t 1 = 0 := Subsingleton.elim _ _
  have e4 : cfg0.slots t 4 = 0 := Subsingleton.elim _ _
  have H := body_at m c t (win0_0.stage (cfg0.slots t 0)) (win0_1.stage (cfg0.slots t 1))
    (hstage0_0 ((cfg0.slots t 0).cast nbuf0_0)) (hstage0_1 ((cfg0.slots t 1).cast nbuf0_1))
    (win0_2.stage (cfg0.slots t 2)) (win0_3.stage (cfg0.slots t 3))
    (hstage0_2 ((cfg0.slots t 2).cast nbuf0_2)) (hstage0_3 ((cfg0.slots t 3).cast nbuf0_3))
    (win0_4.stage (cfg0.slots t 4)) (hstage0_4 ((cfg0.slots t 4).cast nbuf0_4))
    (congrArg win0_0.stage e0) (congrArg win0_1.stage e1) (congrArg win0_4.stage e4)
  refine BIBase.Entails.trans ?_ (H.trans (wp_mono _ _ _ fun _ => ?_))
  · rw [e0, e1, e4]
    iintro ⟨HP, HO, ⟨%d0, H0⟩, ⟨%d1, H1⟩, ⟨%d2, H2⟩, ⟨%d3, H3⟩, ⟨%d4, H4⟩⟩
    isplitl [HP]; · iexact HP
    isplitl [HO]; · iexact HO
    isplitl [H0]; · iapply (owns_pts c cc0_stg0_0 (xstg m c)); iexact H0
    isplitl [H1]; · iapply (owns_pts c cc0_stg1_0 (rstg m c)); iexact H1
    isplitl [H2]; · iexact H2
    isplitl [H3]; · iexact H3
    unfold pts?
    iexists _
    iapply (owns_pts c cc0_stg4_0 _); iexact H4
  · rw [e0, e1, e4]
    iintro ⟨HP, HO, H0, H1, H2, H3, H4⟩
    isplitl [HP]; · iexact HP
    isplitl [HO]; · iexact HO
    isplitl [H0]; · iapply (pts_owns c cc0_stg0_0 (xstg m c)); iexact H0
    isplitl [H1]; · iapply (pts_owns c cc0_stg1_0 (rstg m c)); iexact H1
    isplitl [H2]; · iexact H2
    isplitl [H3]; · iexact H3
    iapply (outLeft_intro m c t); iexact H4

end Cert.Moe

end
-- ==== Proof.Launch.lean ====
/-
The launch: the invariants are set up for all devices at once, the duty tokens are dealt to the devices that pay them,
and the run of the program follows with the contents of every array at its end and every counter at zero.
-/
module

public import proofs.«01_k».proof.Proof.Obligation
public import Idealize.ShloMosaic.Lib.Quiescent
public import Idealize.ShloMosaic.Lib.Pipeline.CollectiveSegs
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## The cells and their tokens -/

theorem csem_injective : Function.Injective csem := by decide
theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- A device's thirteen duties at its own cells: three at its barrier, one at each transfer cell. -/
def tokAt : Fin 13 → SemLoc sig × Fin 3 := fun j =>
  if h : j.val < 3 then (.reg barS, ⟨j.val, h⟩) else (.dma (dsem ⟨j.val - 3, by omega⟩), 0)
theorem tokAt_injective : Function.Injective tokAt := by decide
def tokOf (cj : Dev nD × Fin 13) : GSem nD τ sig × ℕ × Fin 3 := (((cj.1 : Thread nD τ), (tokAt cj.2).1), 0, (tokAt cj.2).2)
theorem tokOf_injective : Function.Injective tokOf := by
  rintro ⟨c, j⟩ ⟨c', j'⟩ h
  have h1 : c = c' := congrArg (fun x : GSem nD τ sig × ℕ × Fin 3 => x.1.1.1) h
  have h2 : j = j' := tokAt_injective (Prod.ext (congrArg (fun x : GSem nD τ sig × ℕ × Fin 3 => x.1.2) h) (congrArg (fun x : GSem nD τ sig × ℕ × Fin 3 => x.2.2) h))
  rw [h1, h2]
def theToks : Finset (GSem nD τ sig × ℕ × Fin 3) := Finset.univ.map ⟨tokOf, tokOf_injective⟩

def u₀ : UU :=
  (initOf (Pipeline.cells cfgs cellOf_inj) (Pipeline.launchToks cfgs cellOf_inj), initOf theCells theToks)

/-- The tokens of device `c`'s own cells. -/
def toks (c : Dev nD) : sProp 𝕄 :=
  iprop(dutyTok ER (barCell c) 0 0 ∗ dutyTok ER (barCell c) 0 1 ∗ dutyTok ER (barCell c) 0 2 ∗ dutyTok ER (dcell c 0) 0 0 ∗ dutyTok ER (dcell c 1) 0 0 ∗ dutyTok ER (dcell c 2) 0 0 ∗ dutyTok ER (dcell c 3) 0 0 ∗ dutyTok ER (dcell c 4) 0 0 ∗ dutyTok ER (dcell c 5) 0 0 ∗ dutyTok ER (dcell c 6) 0 0 ∗ dutyTok ER (dcell c 7) 0 0 ∗ dutyTok ER (dcell c 8) 0 0 ∗ dutyTok ER (dcell c 9) 0 0)
/-- The tokens of the duties device `c` pays. -/
def payToks (c : Dev nD) : sProp 𝕄 :=
  iprop(dutyTok ER (barCell (yp c)) 0 0 ∗ dutyTok ER (barCell (xp c)) 0 1 ∗ dutyTok ER (barCell (zp c)) 0 2 ∗ dutyTok ER (dcell c 0) 0 0 ∗ dutyTok ER (dcell (yp c) 1) 0 0 ∗ dutyTok ER (dcell c 2) 0 0 ∗ dutyTok ER (dcell (yp c) 3) 0 0 ∗ dutyTok ER (dcell c 4) 0 0 ∗ dutyTok ER (dcell (yp c) 5) 0 0 ∗ dutyTok ER (dcell c 6) 0 0 ∗ dutyTok ER (dcell (xp c) 7) 0 0 ∗ dutyTok ER (dcell c 8) 0 0 ∗ dutyTok ER (dcell (zp c) 9) 0 0)
/-- Device `c`'s positions at its own cells. -/
def poss (c : Dev nD) : sProp 𝕄 := bigSep Finset.univ fun k : Fin 11 => atPos ER (kcell (c, k)) 0 ∅ 0

def G (c : Dev nD) : sProp 𝕄 :=
  iprop((bigSep Finset.univ fun k : Fin 11 => roundState ER (rd m) (kcell (c, k)) 0)
    ∗ (poss c ∗ bigSep Finset.univ fun k : Fin 11 => reached ER (kcell (c, k)) 0) ∗ toks c)
def G' (c : Dev nD) : sProp 𝕄 := iprop(∃ K, records m K ∗ linear c)

omit [FloatOps F] in
theorem bigSep_11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
omit [FloatOps F] in
theorem bigSep_13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 11 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_13]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0) := by
  rw [Pipeline.ownSems0_eq_of_list c osem [0, 1, 2, 3, 4, 5, 6, 7, 8, 9] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_11]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (poss c ∗ bigSep Finset.univ fun k : Fin 11 => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def Xe : Dev nD ≃ Dev nD := ⟨xp, xp, xp_xp, xp_xp⟩
def Ye : Dev nD ≃ Dev nD := ⟨yp, yp, yp_yp, yp_yp⟩
def Ze : Dev nD ≃ Dev nD := ⟨zp, zp, zp_zp, zp_zp⟩

omit [FloatOps F] in
/-- Every token goes to the neighbour that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv Ye (fun c : Dev nD => (dutyTok ER (barCell c) 0 0 : sProp 𝕄)),
    bigSep_univ_equiv Xe (fun c : Dev nD => (dutyTok ER (barCell c) 0 1 : sProp 𝕄)),
    bigSep_univ_equiv Ze (fun c : Dev nD => (dutyTok ER (barCell c) 0 2 : sProp 𝕄)),
    bigSep_univ_equiv Ye (fun c : Dev nD => (dutyTok ER (dcell c 1) 0 0 : sProp 𝕄)),
    bigSep_univ_equiv Ye (fun c : Dev nD => (dutyTok ER (dcell c 3) 0 0 : sProp 𝕄)),
    bigSep_univ_equiv Ye (fun c : Dev nD => (dutyTok ER (dcell c 5) 0 0 : sProp 𝕄)),
    bigSep_univ_equiv Xe (fun c : Dev nD => (dutyTok ER (dcell c 7) 0 0 : sProp 𝕄)),
    bigSep_univ_equiv Ze (fun c : Dev nD => (dutyTok ER (dcell c 9) 0 0 : sProp 𝕄))]
  exact Entails.rfl

omit [FloatOps F] in
theorem linear_intro (c : Dev nD) : iprop(poss c ∗ payToks c) ⊢ (linear c : sProp 𝕄) := by
  unfold poss payToks linear early late
  rw [bigSep_11]
  iintro ⟨⟨A0, A1, A2, A3, A4, A5, A6, A7, A8, A9, A10⟩, H0, H1, H2, H3, H4, H5, H6, H7, H8, H9, H10, H11, H12⟩
  isplitl [A0 A1 A2 A3 A4 H0 H1 H2 H3 H4 H5 H6]
  · isplitl [A0 A1 A2 A3 A4]
    · isplitl [A0]; · iexact A0
      isplitl [A1]; · iexact A1
      isplitl [A2]; · iexact A2
      isplitl [A3]; · iexact A3
      iexact A4
    isplitl [H0 H1 H2]
    · isplitl [H0]; · iexact H0
      isplitl [H1]; · iexact H1
      iexact H2
    isplitl [H3]; · iexact H3
    isplitl [H4]; · iexact H4
    isplitl [H5]; · iexact H5
    iexact H6
  isplitl [A5 A6 A7 A8 A9 A10]
  · isplitl [A5]; · iexact A5
    isplitl [A6]; · iexact A6
    isplitl [A7]; · iexact A7
    isplitl [A8]; · iexact A8
    isplitl [A9]; · iexact A9
    iexact A10
  isplitl [H7]; · iexact H7
  isplitl [H8]; · iexact H8
  isplitl [H9]; · iexact H9
  isplitl [H10]; · iexact H10
  isplitl [H11]; · iexact H11
  iexact H12

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 11 → ℕ) (c : Dev nD) : iprop(records m K ∗ (poss c ∗ payToks c)) ⊢ G' m c := by
  unfold G'
  iintro ⟨HR, HL⟩
  iexists K
  isplitl [HR]; · iexact HR
  iapply (linear_intro (F := F) c); iexact HL

theorem regroup :
    (bigSep Finset.univ fun c : Dev nD => iprop((bigSep Finset.univ fun k => iprop(∃ κ : ℕ, cellInv ER (rd m) κ (kcell (c, k))))
          ∗ (poss c ∗ bigSep Finset.univ fun k : Fin 11 => reached ER (kcell (c, k)) 0) ∗ toks c) : sProp 𝕄)
      ⊢ bigSep Finset.univ (G' m) := by
  rw [bigSep_sep', bigSep_sep', ← bigSep_univ_prod (fun ck : Dev nD × Fin 11 => iprop(∃ κ : ℕ, cellInv ER (rd m) κ (kcell ck))),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (rd m) κ (kcell ck) : sProp 𝕄))) $$ HI
  icases HK with ⟨%K, #HI⟩
  ihave Htk := (toks_around (F := F)) $$ Htok
  iapply (with_persistent (R := records m K) fun c _ => G'_intro m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices' debts along one axis add up to at a cell. -/
theorem sum_tally (p : Dev nD → Dev nD) (hp : ∀ c, p (p c) = c) (sm sm' : SemLoc sig) (n : ℕ) (c : Dev nD) :
    ∑ d : Dev nD, (tallyAt ((p d : Thread nD τ), sm) () n : CellTallies nD τ sig Unit) ((c : Thread nD τ), sm') () = if sm' = sm then n else 0 := by
  rw [Finset.sum_eq_single (p c)]
  · rw [tallyAt_apply, hp]
    by_cases h : sm' = sm
    · rw [if_pos h, if_pos ⟨by rw [h], rfl⟩]
    · rw [if_neg h, if_neg fun hh => h (congrArg Prod.snd hh.1)]
  · intro d _ hd
    rw [tallyAt_apply, if_neg]
    intro hh
    have h1 : c = p d := congrArg (fun g : GSem nD τ sig => g.1.1) hh.1
    exact hd (by rw [h1, hp])
  · exact fun h => absurd (Finset.mem_univ _) h

theorem owed_sum (sm : SemLoc sig) (c : Dev nD) : ∑ d : Dev nD, O₀ d ((c : Thread nD τ), sm) ()
    = (if sm = .dma (dsem 9) then Nk 9 else 0) + (if sm = .dma (dsem 7) then Nk 7 else 0) + (if sm = .dma (dsem 5) then Nk 5 else 0)
      + (if sm = .dma (dsem 3) then Nk 3 else 0) + (if sm = .dma (dsem 1) then Nk 1 else 0)
      + (if sm = .reg barS then 1 else 0) + (if sm = .reg barS then 1 else 0) + (if sm = .reg barS then 1 else 0) := by
  unfold O₀ O₁ O₂ Os Or Oy Ox Oz
  simp only [Pi.add_apply, Finsupp.add_apply, Finset.sum_add_distrib]
  rw [sum_tally zp zp_zp, sum_tally xp xp_xp, sum_tally yp yp_yp, sum_tally yp yp_yp, sum_tally yp yp_yp,
    sum_tally zp zp_zp, sum_tally xp xp_xp, sum_tally yp yp_yp]

theorem launch_at (sm : SemLoc sig) (c : Dev nD) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 3 : CellTallies nD τ sig Unit) :=
  launch_at _ c 3 ((owed_sum _ c).trans (by
    rw [if_neg (by decide), if_neg (by decide), if_neg (by decide), if_neg (by decide), if_neg (by decide), if_pos rfl]))
theorem launch_1 (c : Dev nD) : tallyOn (dcell c 1) (launchCredit (Pipeline.owing O₀) 0 (dcell c 1)) = (tallyAt (dcell c 1) () (Nk 1) : CellTallies nD τ sig Unit) :=
  launch_at _ c (Nk 1) ((owed_sum _ c).trans (by rw [if_neg (by decide), if_neg (by decide), if_neg (by decide), if_neg (by decide), if_pos rfl, if_neg (by decide)]; omega))
theorem launch_3 (c : Dev nD) : tallyOn (dcell c 3) (launchCredit (Pipeline.owing O₀) 0 (dcell c 3)) = (tallyAt (dcell c 3) () (Nk 3) : CellTallies nD τ sig Unit) :=
  launch_at _ c (Nk 3) ((owed_sum _ c).trans (by rw [if_neg (by decide), if_neg (by decide), if_neg (by decide), if_pos rfl, if_neg (by decide), if_neg (by decide)]; omega))
theorem launch_5 (c : Dev nD) : tallyOn (dcell c 5) (launchCredit (Pipeline.owing O₀) 0 (dcell c 5)) = (tallyAt (dcell c 5) () (Nk 5) : CellTallies nD τ sig Unit) :=
  launch_at _ c (Nk 5) ((owed_sum _ c).trans (by rw [if_neg (by decide), if_neg (by decide), if_pos rfl, if_neg (by decide), if_neg (by decide), if_neg (by decide)]; omega))
theorem launch_7 (c : Dev nD) : tallyOn (dcell c 7) (launchCredit (Pipeline.owing O₀) 0 (dcell c 7)) = (tallyAt (dcell c 7) () (Nk 7) : CellTallies nD τ sig Unit) :=
  launch_at _ c (Nk 7) ((owed_sum _ c).trans (by rw [if_neg (by decide), if_pos rfl, if_neg (by decide), if_neg (by decide), if_neg (by decide), if_neg (by decide)]; omega))
theorem launch_9 (c : Dev nD) : tallyOn (dcell c 9) (launchCredit (Pipeline.owing O₀) 0 (dcell c 9)) = (tallyAt (dcell c 9) () (Nk 9) : CellTallies nD τ sig Unit) :=
  launch_at _ c (Nk 9) ((owed_sum _ c).trans (by rw [if_pos rfl, if_neg (by decide), if_neg (by decide), if_neg (by decide), if_neg (by decide), if_neg (by decide)]; omega))

omit [FloatOps F] in
theorem creds (c : Dev nD) : (Pipeline.launchCred O₀ c : sProp 𝕄) ⊢ iprop(earlyCred c ∗ lateCred c) := by
  unfold Pipeline.launchCred earlyCred lateCred
  rw [← launch_bar, ← launch_1, ← launch_3, ← launch_5, ← launch_7, ← launch_9]
  refine (bigSep_subset (Finset.subset_univ [SemLoc.reg barS, .dma (dsem 1), .dma (dsem 3), .dma (dsem 5), .dma (dsem 7), .dma (dsem 9)].toFinset)).trans ?_
  rw [bigSep_eq_bigSepL _ (by decide)]
  show iprop(cred (tallyOn (barCell c) (launchCredit (Pipeline.owing O₀) 0 (barCell c))) ∗ cred (tallyOn (dcell c 1) (launchCredit (Pipeline.owing O₀) 0 (dcell c 1))) ∗ cred (tallyOn (dcell c 3) (launchCredit (Pipeline.owing O₀) 0 (dcell c 3))) ∗ cred (tallyOn (dcell c 5) (launchCredit (Pipeline.owing O₀) 0 (dcell c 5))) ∗ cred (tallyOn (dcell c 7) (launchCredit (Pipeline.owing O₀) 0 (dcell c 7))) ∗ cred (tallyOn (dcell c 9) (launchCredit (Pipeline.owing O₀) 0 (dcell c 9)))) ⊢ (_ : sProp 𝕄)
  iintro ⟨H0, H1, H3, H5, H7, H9⟩
  isplitl [H0 H1 H3]
  · isplitl [H0]; · iexact H0
    isplitl [H1]; · iexact H1
    iexact H3
  isplitl [H5]; · iexact H5
  isplitl [H7]; · iexact H7
  iexact H9

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratches_eq (c : Dev nD) : (Pipeline.scopedRest cfg0.spec c : sProp 𝕄) = scratches c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratches_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φend c from rfl, scratches_eq, ownSems0_eq, unscopedSems0_eq]
  unfold Φend zeros₁ zeros₂
  iintro ⟨Hr, ⟨HB, Z0, Z1, Z2, Z3⟩, HZ⟩
  isplitl [HB]; · iexact HB
  isplitl [Z0 Z1 Z2 Z3 HZ]
  · isplitl [Z0]; · iexact Z0
    isplitl [Z1]; · iexact Z1
    isplitl [Z2]; · iexact Z2
    isplitl [Z3]; · iexact Z3
    iexact HZ
  iexact Hr

theorem owed_above (c : Dev nD) (t : Fin (cfg0.N + 1)) : Above 0 ((dats m 0 c).owed t) := by
  show Above 0 (if t.val = 0 then O₀ c else if t.val = 32 then 0 else Oy c)
  split
  · exact above_O₀ c
  split
  · exact above_zero 0
  · exact above_mono (Nat.zero_le _) (above_Oy c)

theorem waits (c : Dev nD) : (levAts L lv : sProp 𝕄) ⊢ Pipeline.cellsWaits cfgs (dats m) () 0 c :=
  Pipeline.cellsWaits_intro cfgs (dats m) () 0 c fun w s t =>
    mayWait_of c _ 0 _ (by fin_cases w <;> fin_cases s <;> decide) (owed_above m c t)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The run, read -/

theorem flushed_eq (c : Dev nD) (t : Fin cfg0.N) (hf : (cfg0.win 4).flush t = true) :
    (dats m 0 c).flushed 4 t = ((cfg0.win 4).blk t).view.read (Elt F) (outV m c) := by
  show (cfg0.win 4).cut (grid0.coords t) ((dats m 0 c).after 4 t) = _
  have hz' : (fun a => win0_4.index t a * main_v1.ty.shape.size a) = fun _ => 0 := funext fun a => by fin_cases a <;> rfl
  exact (Memref.read_access_unit_zero (Elt F) main_v1 hz' (fun a => by rw [congrFun hz' a]; simp) (outV m c)).symm

abbrev t31 : Fin cfg0.N := tAt 31 (by decide)

theorem final_out (c : Dev nD) : (dats m 0 c).arrAt 4 cfg0.N = outV m c :=
  (dats m 0 c).arrAt_eq_of_cover 4 (outV m c) (flushed_eq m c) fun i =>
    ⟨t31, (flush0_4 t31).mpr rfl, by
      show i ∈ ((View.whole main_v1).slice (win0_4.rect t31)).set
      rw [View.set_slice_whole, Rect.mem_set_unit]
      intro a
      have h0 : (i 0 : Nat) < 1024 := (i 0).isLt
      have h1 : (i 1 : Nat) < 1024 := (i 1).isLt
      match a with
      | ⟨0, _⟩ => exact ⟨Nat.zero_le _, h0⟩
      | ⟨1, _⟩ => exact ⟨Nat.zero_le _, h1⟩⟩

/-- Every execution ends with each device's result at `outV`, its arguments as they were and every counter at zero. -/
theorem run : θ_run defs (onTc (τ := τ) (main (F := F))) ⟨m, fun _ => 0, ρ⟩ fun r =>
    (∀ c : Dev nD, r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨(h.1 c 4).trans (final_out m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩) (run_main m ρ)

end Cert.Moe

end
-- ==== Proof.Frames.lean ====
/-
The frame claims: every execution ends, leaves the arguments as they were, and every counter at zero.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Moe

open Idealize.ShloMosaic

theorem frame_kernelIdeal : Cert.quiescent_KernelIdeal := fun m ρ _ =>
  (θ_run Cert.KernelIdeal.defs _ _).mono (fun _ h => ⟨fun c => (h.1 c).2, h.2⟩) (run (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The compiled program is the same program, read at the machine's words. -/
theorem defs₀_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) ?_
  funext l a
  obtain ⟨l, h⟩ := l
  cases l with
  | zero => obtain ⟨t, s⟩ := a; rfl
  | succ n => exact absurd h (Nat.not_lt.2 (Nat.le_add_left _ _))
theorem defs_eq : Cert.Kernel.defs (F := Bits) = Cert.KernelIdeal.defs (F := Bits) := by
  unfold Cert.Kernel.defs Cert.KernelIdeal.defs
  rw [defs₀_eq]; rfl

theorem frame_kernel : Cert.quiescent_Kernel := fun m ρ _ => by
  rw [defs_eq]
  have h := run (F := Bits) m ρ
  exact (θ_run (Cert.KernelIdeal.defs (F := Bits)) (onTc (τ := Cert.KernelIdeal.τ) (Cert.KernelIdeal.main (F := Bits))) _).mono
    (fun r (h : (_ ∧ _)) => ⟨fun c => (h.1 c).2, h.2⟩) h

end Cert.Moe

end
-- ==== Proof.Equation.lean ====
/-
The value claim: where a token's experts are told apart, the kernel's devices end holding their parts of the
reference's result.
-/
module

public import proofs.«01_k».proof.Proof.KernelValue
public import proofs.«01_k».proof.Proof.Frames

@[expose] public section

noncomputable section

namespace Cert.Moe

open Idealize.ShloMosaic

/-- Entry `(i, d)` of a device's block of an array of tokens is entry `(1024 * y + i, d)` of the array. -/
theorem block_apply {α : Type} (c : Dev Cert.KernelIdeal.nD) (v : (⟨2, ![2048, 1024]⟩ : Shape).Idx → α) (i d : Fin 1024) :
    (Layout.blockN ⟨2, ![1024, 1024]⟩ ⟨2, ![2048, 1024]⟩ (Layout.meshBlock [2, 2, 2] ![[1], []] c) v
        : (⟨2, ![1024, 1024]⟩ : Shape).Idx → α) (ix2 i d)
      = v (ix2 ⟨1024 * (cy c).val + i.val, by omega⟩ d) := by
  rw [Layout.blockN_apply]
  congr 1
  funext a
  apply Fin.ext
  rw [Layout.TilesN.idx_val]
  match a with
  | ⟨0, _⟩ =>
    show Layout.meshLin [2, 2, 2] c.val [1] * 1024 + i.val = 1024 * (cy c).val + i.val
    rw [lin_y]; omega
  | ⟨1, _⟩ =>
    show Layout.meshLin [2, 2, 2] c.val [] * 1024 + d.val = d.val
    rw [lin_none]; omega

theorem algebraic : Cert.algebraic_KernelIdeal_ReferenceIdeal_on_routed := by
  intro m g m' g' _ hm
  have hb : Blocks m _ _ _ _ :=
    ⟨fun c => (hm c).1, fun c => (hm c).2.1, fun c => (hm c).2.2.1, fun c => (hm c).2.2.2⟩
  refine ⟨Cert.ReferenceIdeal.Value.res_main_v41 (F := Ideal) m' 0,
    (θ_run Cert.KernelIdeal.defs _ _).mono (fun r h c => ⟨fun i hi => ?_, (h.1 c).2⟩) (run (F := Ideal) m g),
    (θ_run Cert.ReferenceIdeal.defs _ _).mono (fun r h => ⟨fun i _ => congrFun (h 0).1 i, (h 0).2⟩)
      (Cert.ReferenceIdeal.Value.run (F := Ideal) m' g')⟩
  obtain ⟨a, d, rfl⟩ : ∃ a d : Fin 1024, i = ix2 a d := ⟨_, _, ValueIdx.eq_ix2 i⟩
  rw [block_apply, routed_apply] at hi
  rw [block_apply, (h.1 c).1]
  exact (outV_apply hb c a d (routed_of_bit _ hi)).trans (result_apply m' 0 _ d).symm

end Cert.Moe

end
-- ==== Proof.lean ====
/-
The claims, assembled.
-/
module

public import proofs.«01_k».proof.Defs
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Moe.routedFacts,
    Cert.Moe.frame_kernel, Cert.Moe.frame_kernelIdeal, Cert.Moe.frame_referenceIdeal, trivial, Cert.Moe.algebraic⟩

end Cert.Proof

end
